-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v24_0)) (v1 : (c : Dev Cert.Kernel6Ideal.nD) → Buf (Elt Ideal) ((c.tc : Thread Cert.Kernel6Ideal.nD Cert.Kernel6Ideal.τ).loc Cert.Kernel6Ideal.main_v24_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24_0) = v0 c
          ∧ r.2.mem ((c.tc : Thread Cert.Kernel6Ideal.nD Cert.Kernel6Ideal.τ).loc Cert.Kernel6Ideal.main_v24_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_inputs.lean ====
abbrev S2x8448x2048 : Shape := ⟨3, ![2, 8448, 2048]⟩
abbrev S2x8448x11264 : Shape := ⟨3, ![2, 8448, 11264]⟩
abbrev S1x4x64 : Shape := ⟨3, ![1, 4, 64]⟩
abbrev S1x128 : Shape := ⟨2, ![1, 128]⟩
abbrev S_ : Shape := ⟨0, ![]⟩
abbrev S2x8448x1024 : Shape := ⟨3, ![2, 8448, 1024]⟩

class Facts : Prop where
  bitsLt_bf16_f32 : FTy.bits .bf16 < FTy.bits .f32
  bcast_S_S2x8448x2048 : S_.BroadcastsInDim S2x8448x2048 (![] : Fin 0 → Fin S2x8448x2048.rank)
  slices_S2x8448x11264_S2x8448x1024_0_0_6144 : S2x8448x11264.Slices ![0, 0, 6144] S2x8448x1024
  bcast_S_S2x8448x1024 : S_.BroadcastsInDim S2x8448x1024 (![] : Fin 0 → Fin S2x8448x1024.rank)
  bcast_S_S1x4x64 : S_.BroadcastsInDim S1x4x64 (![] : Fin 0 → Fin S1x4x64.rank)

variable [Facts]

def fn {F : FTy → Type} [FloatOps F] (main_arg0 : FVec F S2x8448x2048 .bf16) (main_arg1 : FVec F S2x8448x11264 .bf16) (main_arg2 : FVec F S1x4x64 .f32) (main_arg3 : FVec F S1x128 .f32) : IVec S2x8448x2048 1 × IVec S2x8448x1024 1 × IVec S1x4x64 1 :=
  let main_v0 : FVec F S2x8448x2048 .f32 := (extf .f32 · bitsLt_bf16_f32) main_arg0
  let main_v1 : FVec F S2x8448x2048 .f32 := Host.absf main_v0
  let main_cst : FVec F S_ .f32 := constant S_ .f32 0x7F800000#32
  let main_v2 : FVec F S2x8448x2048 .f32 := broadcastInDim S2x8448x2048 ![] bcast_S_S2x8448x2048 main_cst
  let main_v3 : IVec S2x8448x2048 1 := cmpf .olt main_v1 main_v2
  let main_v4 : FVec F S2x8448x1024 .bf16 := (extractStridedSlice S2x8448x1024 ![0, 0, 6144] · slices_S2x8448x11264_S2x8448x1024_0_0_6144) main_arg1
  let main_v5 : FVec F S2x8448x1024 .f32 := (extf .f32 · bitsLt_bf16_f32) main_v4
  let main_v6 : FVec F S2x8448x1024 .f32 := Host.absf main_v5
  let main_cst_0 : FVec F S_ .f32 := constant S_ .f32 0x7F800000#32
  let main_v7 : FVec F S2x8448x1024 .f32 := broadcastInDim S2x8448x1024 ![] bcast_S_S2x8448x1024 main_cst_0
  let main_v8 : IVec S2x8448x1024 1 := cmpf .olt main_v6 main_v7
  let main_v9 : FVec F S1x4x64 .f32 := Host.absf main_arg2
  let main_cst_1 : FVec F S_ .f32 := constant S_ .f32 0x7F800000#32
  let main_v10 : FVec F S1x4x64 .f32 := broadcastInDim S1x4x64 ![] bcast_S_S1x4x64 main_cst_1
  let main_v11 : IVec S1x4x64 1 := cmpf .olt main_v9 main_v10
  (main_v3, main_v8, main_v11)
-- ==== Kernel.lean ====
abbrev S2x8448x2048 : Shape := ⟨3, ![2, 8448, 2048]⟩
abbrev S2x8448x11264 : Shape := ⟨3, ![2, 8448, 11264]⟩
abbrev S1x4x64 : Shape := ⟨3, ![1, 4, 64]⟩
abbrev S1x128 : Shape := ⟨2, ![1, 128]⟩
abbrev S4x64 : Shape := ⟨2, ![4, 64]⟩
abbrev S128 : Shape := ⟨1, ![128]⟩
abbrev S2x8192x1024 : Shape := ⟨3, ![2, 8192, 1024]⟩
abbrev S1x512x128 : Shape := ⟨3, ![1, 512, 128]⟩
abbrev S1x768x128 : Shape := ⟨3, ![1, 768, 128]⟩
abbrev S1024x128 : Shape := ⟨2, ![1024, 128]⟩
abbrev S1024x1 : Shape := ⟨2, ![1024, 1]⟩
abbrev S512x128 : Shape := ⟨2, ![512, 128]⟩
abbrev S768x128 : Shape := ⟨2, ![768, 128]⟩
abbrev S1024x768 : Shape := ⟨2, ![1024, 768]⟩
abbrev S1024 : Shape := ⟨1, ![1024]⟩
abbrev S1x64 : Shape := ⟨2, ![1, 64]⟩
abbrev S1 : Shape := ⟨1, ![1]⟩
abbrev S1x1 : Shape := ⟨2, ![1, 1]⟩
abbrev S512x1 : Shape := ⟨2, ![512, 1]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x11264, .bf16⟩
  | .hbm, ⟨2, _⟩ => ⟨S1x4x64, .f32⟩
  | .hbm, ⟨3, _⟩ => ⟨S1x128, .f32⟩
  | .hbm, ⟨4, _⟩ => ⟨S4x64, .f32⟩
  | .hbm, ⟨5, _⟩ => ⟨S128, .f32⟩
  | .hbm, ⟨6, _⟩ => ⟨S1x128, .f32⟩
  | .hbm, ⟨7, _⟩ => ⟨S2x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x768x128, .bf16⟩
  | .local _ .vmem, ⟨3, _⟩ => ⟨S1x768x128, .bf16⟩
  | .local _ .vmem, ⟨4, _⟩ => ⟨S1x768x128, .bf16⟩
  | .local _ .vmem, ⟨5, _⟩ => ⟨S1x768x128, .bf16⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S1024x128, .bf16⟩
  | .local _ .vmem, ⟨11, _⟩ => ⟨S1024x1, .f32⟩
  | .local _ .vmem, ⟨12, _⟩ => ⟨S1024x1, .f32⟩
  | .local _ .vmem, ⟨13, _⟩ => ⟨S1024x128, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![2, 8, 16, 11], ![false, false, false, false]⟩

def k0_cond2 (i : grid0.Coords) : BitVec 1 :=
  let arg3 : BitVec 32 := BitVec.ofNat 32 (i 3).val
  let c10_i32 : BitVec 32 := 10#32
  let v38 : BitVec 1 := Scalar.cmpi .eq arg3 c10_i32
  let v39 : BitVec 32 := Scalar.extui v38
  let c0_i32_23 : BitVec 32 := 0#32
  let v40 : BitVec 1 := Scalar.cmpi .ne v39 c0_i32_23
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.addi c8_i32 arg1
  let c0_i32 : BitVec 32 := 0#32
  ![arg0.toNat, arg3.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c48_i32 : BitVec 32 := 48#32
  let v0 : BitVec 32 := Scalar.addi c48_i32 arg1
  let c0_i32 : BitVec 32 := 0#32
  ![arg0.toNat, arg3.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== ReferenceIdeal.lean ====
abbrev S2x8448x2048 : Shape := ⟨3, ![2, 8448, 2048]⟩
abbrev S2x8448x11264 : Shape := ⟨3, ![2, 8448, 11264]⟩
abbrev S1x4x64 : Shape := ⟨3, ![1, 4, 64]⟩
abbrev S1x128 : Shape := ⟨2, ![1, 128]⟩
abbrev S2x8192x1024 : Shape := ⟨3, ![2, 8192, 1024]⟩
abbrev S2x8192x8x2x64 : Shape := ⟨5, ![2, 8192, 8, 2, 64]⟩
abbrev S2x8x2x8192x64 : Shape := ⟨5, ![2, 8, 2, 8192, 64]⟩
abbrev S2x8448x1024 : Shape := ⟨3, ![2, 8448, 1024]⟩
abbrev S2x8448x8x2x64 : Shape := ⟨5, ![2, 8448, 8, 2, 64]⟩
abbrev S2x8x2x8448x64 : Shape := ⟨5, ![2, 8, 2, 8448, 64]⟩
abbrev S2x8448x8x128 : Shape := ⟨4, ![2, 8448, 8, 128]⟩
abbrev S2x8x8448x128 : Shape := ⟨4, ![2, 8, 8448, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x8192x128 : Shape := ⟨4, ![2, 8, 8192, 128]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x11264, .bf16⟩
  | .hbm, ⟨2, _⟩ => ⟨S1x4x64, .f32⟩
  | .hbm, ⟨3, _⟩ => ⟨S1x128, .f32⟩
  | .hbm, ⟨4, _⟩ => ⟨S2x8448x2048, .f32⟩
  | .hbm, ⟨5, _⟩ => ⟨S2x8192x1024, .f32⟩
  | .hbm, ⟨6, _⟩ => ⟨S2x8192x8x2x64, .f32⟩
  | .hbm, ⟨7, _⟩ => ⟨S2x8x2x8192x64, .f32⟩
  | .hbm, ⟨8, _⟩ => ⟨S2x8448x1024, .f32⟩
  | .hbm, ⟨9, _⟩ => ⟨S2x8448x8x2x64, .f32⟩
  | .hbm, ⟨10, _⟩ => ⟨S2x8x2x8448x64, .f32⟩
  | .hbm, ⟨11, _⟩ => ⟨S2x8448x1024, .bf16⟩
  | .hbm, ⟨12, _⟩ => ⟨S2x8448x1024, .f32⟩
  | .hbm, ⟨13, _⟩ => ⟨S2x8448x8x128, .f32⟩
  | .hbm, ⟨14, _⟩ => ⟨S2x8x8448x128, .f32⟩
  | .hbm, ⟨15, _⟩ => ⟨S4x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x8x2x8192x8448, .f32⟩
  | .hbm, ⟨36, _⟩ => ⟨S_, .f32⟩
  | .hbm, ⟨37, _⟩ => ⟨S2x8x2x8192, .f32⟩
  | .hbm, ⟨38, _⟩ => ⟨S_, .f32⟩
  | .hbm, ⟨39, _⟩ => ⟨S2x8x2x8192, .f32⟩
  | .hbm, ⟨40, _⟩ => ⟨S2x8x2x8192, .f32⟩
  | .hbm, ⟨41, _⟩ => ⟨S2x8x2x8192x1, .f32⟩
  | .hbm, ⟨42, _⟩ => ⟨S2x8x2x8192x8448, .f32⟩
  | .hbm, ⟨43, _⟩ => ⟨S2x8x2x8192x8448, .f32⟩
  | .hbm, ⟨44, _⟩ => ⟨S2x8x2x8192x8448, .f32⟩
  | .hbm, ⟨45, _⟩ => ⟨S_, .f32⟩
  | .hbm, ⟨46, _⟩ => ⟨S2x8x2x8192, .f32⟩
  | .hbm, ⟨47, _⟩ => ⟨S2x8x2x8192x1, .f32⟩
  | .hbm, ⟨48, _⟩ => ⟨S2x8x2x8192x8448, .f32⟩
  | .hbm, ⟨49, _⟩ => ⟨S2x8x2x8192x8448, .f32⟩
  | .hbm, ⟨50, _⟩ => ⟨S2x8x1x8192x8448, .f32⟩
  | .hbm, ⟨51, _⟩ => ⟨S2x8x8192x8448, .f32⟩
  | .hbm, ⟨52, _⟩ => ⟨S2x8x1x8192x8448, .f32⟩
  | .hbm, ⟨53, _⟩ => ⟨S2x8x8192x8448, .f32⟩
  | .hbm, ⟨54, _⟩ => ⟨S2x8x8192x8448, .f32⟩
  | .hbm, ⟨55, _⟩ => ⟨S2x8x8192x8448, .f32⟩
  | .hbm, ⟨56, _⟩ => ⟨S2x8x8192x8448, .f32⟩
  | .hbm, ⟨57, _⟩ => ⟨S2x8x8192x128, .f32⟩
  | .hbm, ⟨58, _⟩ => ⟨S2x8192x8x128, .f32⟩
  | .hbm, ⟨59, _⟩ => ⟨S2x8192x8x128, .f32⟩
  | .hbm, ⟨60, _⟩ => ⟨S_, .f32⟩
  | .hbm, ⟨61, _⟩ => ⟨S2x8192x8, .f32⟩
  | .hbm, ⟨62, _⟩ => ⟨S2x8192x8x1, .f32⟩
  | .hbm, ⟨63, _⟩ => ⟨S_, .f32⟩
  | .hbm, ⟨64, _⟩ => ⟨S2x8192x8x1, .f32⟩
  | .hbm, ⟨65, _⟩ => ⟨S2x8192x8x1, .f32⟩
  | .hbm, ⟨66, _⟩ => ⟨S_, .f32⟩
  | .hbm, ⟨67, _⟩ => ⟨S2x8192x8x1, .f32⟩
  | .hbm, ⟨68, _⟩ => ⟨S2x8192x8x1, .f32⟩
  | .hbm, ⟨69, _⟩ => ⟨S2x8192x8x1, .f32⟩
  | .hbm, ⟨70, _⟩ => ⟨S2x8192x8x128, .f32⟩
  | .hbm, ⟨71, _⟩ => ⟨S2x8192x8x128, .f32⟩
  | .hbm, ⟨72, _⟩ => ⟨S128, .f32⟩
  | .hbm, ⟨73, _⟩ => ⟨S1x1x1x128, .f32⟩
  | .hbm, ⟨74, _⟩ => ⟨S2x8192x8x128, .f32⟩
  | .hbm, ⟨75, _⟩ => ⟨S2x8192x8x128, .f32⟩
  | .hbm, ⟨76, _⟩ => ⟨S_, .f32⟩
  | .hbm, ⟨77, _⟩ => ⟨S2x8192x8x128, .f32⟩
  | .hbm, ⟨78, _⟩ => ⟨S2x8192x8x128, .f32⟩
  | .hbm, ⟨79, _⟩ => ⟨S2x8192x1024, .f32⟩
  | .hbm, ⟨80, _⟩ => ⟨S2x8192x1024, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Kernel2.lean ====
abbrev S2x8192x2048 : Shape := ⟨3, ![2, 8192, 2048]⟩
abbrev S2x256x2048 : Shape := ⟨3, ![2, 256, 2048]⟩
abbrev S8x12288 : Shape := ⟨2, ![8, 12288]⟩
abbrev S1x2048 : Shape := ⟨2, ![1, 2048]⟩
abbrev S1x2048x11296 : Shape := ⟨3, ![1, 2048, 11296]⟩
abbrev S1x11296 : Shape := ⟨2, ![1, 11296]⟩
abbrev S8x2048 : Shape := ⟨2, ![8, 2048]⟩
abbrev S2x8448x2048 : Shape := ⟨3, ![2, 8448, 2048]⟩
abbrev S2048x11296 : Shape := ⟨2, ![2048, 11296]⟩
abbrev S11296 : Shape := ⟨1, ![11296]⟩
abbrev S2048x4096 : Shape := ⟨2, ![2048, 4096]⟩
abbrev S2048x7168 : Shape := ⟨2, ![2048, 7168]⟩
abbrev S2048x11264 : Shape := ⟨2, ![2048, 11264]⟩
abbrev S4096 : Shape := ⟨1, ![4096]⟩
abbrev S7168 : Shape := ⟨1, ![7168]⟩
abbrev S11264 : Shape := ⟨1, ![11264]⟩
abbrev S2048 : Shape := ⟨1, ![2048]⟩
abbrev S2x2048 : Shape := ⟨2, ![2, 2048]⟩
abbrev S2x1x2048 : Shape := ⟨3, ![2, 1, 2048]⟩
abbrev S2x2x2048 : Shape := ⟨3, ![2, 2, 2048]⟩
abbrev S1x11264 : Shape := ⟨2, ![1, 11264]⟩
abbrev S2x8448x11264 : Shape := ⟨3, ![2, 8448, 11264]⟩
abbrev S1x768x2048 : Shape := ⟨3, ![1, 768, 2048]⟩
abbrev S1x2x2048 : Shape := ⟨3, ![1, 2, 2048]⟩
abbrev S2048x1024 : Shape := ⟨2, ![2048, 1024]⟩
abbrev S1x1024 : Shape := ⟨2, ![1, 1024]⟩
abbrev S1x768x1024 : Shape := ⟨3, ![1, 768, 1024]⟩
abbrev S768x2048 : Shape := ⟨2, ![768, 2048]⟩
abbrev S768 : Shape := ⟨1, ![768]⟩
abbrev S768x1 : Shape := ⟨2, ![768, 1]⟩
abbrev S1x1x2048 : Shape := ⟨3, ![1, 1, 2048]⟩
abbrev S768x1024 : Shape := ⟨2, ![768, 1024]⟩

abbrev nBuf : Space → Nat
  | .hbm => 38
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S8x12288, .f32⟩
  | .hbm, ⟨3, _⟩ => ⟨S1x2048, .f32⟩
  | .hbm, ⟨4, _⟩ => ⟨S1x2048x11296, .f32⟩
  | .hbm, ⟨5, _⟩ => ⟨S1x11296, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2x8448x2048, .f32⟩
  | .hbm, ⟨13, _⟩ => ⟨S2048x11296, .f32⟩
  | .hbm, ⟨14, _⟩ => ⟨S11296, .f32⟩
  | .hbm, ⟨15, _⟩ => ⟨S2048x4096, .f32⟩
  | .hbm, ⟨16, _⟩ => ⟨S2048x7168, .f32⟩
  | .hbm, ⟨17, _⟩ => ⟨S2048x11264, .f32⟩
  | .hbm, ⟨18, _⟩ => ⟨S2048x11264, .bf16⟩
  | .hbm, ⟨19, _⟩ => ⟨S4096, .f32⟩
  | .hbm, ⟨20, _⟩ => ⟨S7168, .f32⟩
  | .hbm, ⟨21, _⟩ => ⟨S11264, .f32⟩
  | .hbm, ⟨22, _⟩ => ⟨S2048, .f32⟩
  | .hbm, ⟨23, _⟩ => ⟨S2x2048, .f32⟩
  | .hbm, ⟨24, _⟩ => ⟨S1x2048, .f32⟩
  | .hbm, ⟨25, _⟩ => ⟨S2x2048, .f32⟩
  | .hbm, ⟨26, _⟩ => ⟨S2x1x2048, .f32⟩
  | .hbm, ⟨27, _⟩ => ⟨S2x1x2048, .f32⟩
  | .hbm, ⟨28, _⟩ => ⟨S2x2x2048, .f32⟩
  | .hbm, ⟨29, _⟩ => ⟨S2x2048, .f32⟩
  | .hbm, ⟨30, _⟩ => ⟨S1x2048, .f32⟩
  | .hbm, ⟨31, _⟩ => ⟨S2x2048, .f32⟩
  | .hbm, ⟨32, _⟩ => ⟨S2x1x2048, .f32⟩
  | .hbm, ⟨33, _⟩ => ⟨S2x1x2048, .f32⟩
  | .hbm, ⟨34, _⟩ => ⟨S2x2x2048, .f32⟩
  | .hbm, ⟨35, _⟩ => ⟨S1x2048, .f32⟩
  | .hbm, ⟨36, _⟩ => ⟨S1x11264, .f32⟩
  | .hbm, ⟨37, _⟩ => ⟨S2x8448x11264, .bf16⟩
  | .local _ .vmem, ⟨0, _⟩ => ⟨S1x768x2048, .f32⟩
  | .local _ .vmem, ⟨1, _⟩ => ⟨S1x768x2048, .f32⟩
  | .local _ .vmem, ⟨2, _⟩ => ⟨S1x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1x768x1024, .bf16⟩
  | .local _ .vmem, ⟨12, _⟩ => ⟨S1x768x1024, .bf16⟩
  | .local _ .vmem, ⟨13, _⟩ => ⟨S768x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 11, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference2Ideal.lean ====
abbrev S2x8192x2048 : Shape := ⟨3, ![2, 8192, 2048]⟩
abbrev S2x256x2048 : Shape := ⟨3, ![2, 256, 2048]⟩
abbrev S8x12288 : Shape := ⟨2, ![8, 12288]⟩
abbrev S1x2048 : Shape := ⟨2, ![1, 2048]⟩
abbrev S1x2048x11296 : Shape := ⟨3, ![1, 2048, 11296]⟩
abbrev S1x11296 : Shape := ⟨2, ![1, 11296]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x256 : Shape := ⟨2, ![2, 256]⟩
abbrev S2x256x1 : Shape := ⟨3, ![2, 256, 1]⟩
abbrev S2048x11296 : Shape := ⟨2, ![2048, 11296]⟩
abbrev S2x8192x11296 : Shape := ⟨3, ![2, 8192, 11296]⟩
abbrev S11296 : Shape := ⟨1, ![11296]⟩
abbrev S1x1x11296 : Shape := ⟨3, ![1, 1, 11296]⟩
abbrev S2x256x11296 : Shape := ⟨3, ![2, 256, 11296]⟩
abbrev S2x8448x11296 : Shape := ⟨3, ![2, 8448, 11296]⟩
abbrev S2x8448x4096 : Shape := ⟨3, ![2, 8448, 4096]⟩
abbrev S2x8448x7168 : Shape := ⟨3, ![2, 8448, 7168]⟩
abbrev S2x8448x11264 : Shape := ⟨3, ![2, 8448, 11264]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S8x12288, .f32⟩
  | .hbm, ⟨3, _⟩ => ⟨S1x2048, .f32⟩
  | .hbm, ⟨4, _⟩ => ⟨S1x2048x11296, .f32⟩
  | .hbm, ⟨5, _⟩ => ⟨S1x11296, .f32⟩
  | .hbm, ⟨6, _⟩ => ⟨S2x12288, .f32⟩
  | .hbm, ⟨7, _⟩ => ⟨S2x1x12288, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S1x12288, .f32⟩
  | .hbm, ⟨15, _⟩ => ⟨S12288, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2x8192x2048, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x2048, .f32⟩
  | .hbm, ⟨35, _⟩ => ⟨S2x8192x2048, .f32⟩
  | .hbm, ⟨36, _⟩ => ⟨S1x1x2048, .f32⟩
  | .hbm, ⟨37, _⟩ => ⟨S2x8192x2048, .f32⟩
  | .hbm, ⟨38, _⟩ => ⟨S2x8192x2048, .f32⟩
  | .hbm, ⟨39, _⟩ => ⟨S_, .f32⟩
  | .hbm, ⟨40, _⟩ => ⟨S2x1x2048, .f32⟩
  | .hbm, ⟨41, _⟩ => ⟨S2x1x2048, .f32⟩
  | .hbm, ⟨42, _⟩ => ⟨S2x8192x2048, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S2048, .f32⟩
  | .hbm, ⟨47, _⟩ => ⟨S2x256x2048, .f32⟩
  | .hbm, ⟨48, _⟩ => ⟨S_, .f32⟩
  | .hbm, ⟨49, _⟩ => ⟨S2x256, .f32⟩
  | .hbm, ⟨50, _⟩ => ⟨S2x256x1, .f32⟩
  | .hbm, ⟨51, _⟩ => ⟨S_, .f32⟩
  | .hbm, ⟨52, _⟩ => ⟨S2x256x1, .f32⟩
  | .hbm, ⟨53, _⟩ => ⟨S2x256x1, .f32⟩
  | .hbm, ⟨54, _⟩ => ⟨S_, .f32⟩
  | .hbm, ⟨55, _⟩ => ⟨S2x256x1, .f32⟩
  | .hbm, ⟨56, _⟩ => ⟨S2x256x1, .f32⟩
  | .hbm, ⟨57, _⟩ => ⟨S2x256x1, .f32⟩
  | .hbm, ⟨58, _⟩ => ⟨S2x256x2048, .f32⟩
  | .hbm, ⟨59, _⟩ => ⟨S2x256x2048, .f32⟩
  | .hbm, ⟨60, _⟩ => ⟨S1x1x2048, .f32⟩
  | .hbm, ⟨61, _⟩ => ⟨S2x256x2048, .f32⟩
  | .hbm, ⟨62, _⟩ => ⟨S2x256x2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S1x1x2048, .f32⟩
  | .hbm, ⟨67, _⟩ => ⟨S2x256x2048, .f32⟩
  | .hbm, ⟨68, _⟩ => ⟨S2x256x2048, .f32⟩
  | .hbm, ⟨69, _⟩ => ⟨S1x1x2048, .f32⟩
  | .hbm, ⟨70, _⟩ => ⟨S2x256x2048, .f32⟩
  | .hbm, ⟨71, _⟩ => ⟨S2x256x2048, .f32⟩
  | .hbm, ⟨72, _⟩ => ⟨S2048x11296, .f32⟩
  | .hbm, ⟨73, _⟩ => ⟨S2x8192x11296, .f32⟩
  | .hbm, ⟨74, _⟩ => ⟨S11296, .f32⟩
  | .hbm, ⟨75, _⟩ => ⟨S1x1x11296, .f32⟩
  | .hbm, ⟨76, _⟩ => ⟨S2x8192x11296, .f32⟩
  | .hbm, ⟨77, _⟩ => ⟨S2x8192x11296, .f32⟩
  | .hbm, ⟨78, _⟩ => ⟨S2048x11296, .f32⟩
  | .hbm, ⟨79, _⟩ => ⟨S2x256x11296, .f32⟩
  | .hbm, ⟨80, _⟩ => ⟨S11296, .f32⟩
  | .hbm, ⟨81, _⟩ => ⟨S1x1x11296, .f32⟩
  | .hbm, ⟨82, _⟩ => ⟨S2x256x11296, .f32⟩
  | .hbm, ⟨83, _⟩ => ⟨S2x256x11296, .f32⟩
  | .hbm, ⟨84, _⟩ => ⟨S2x8448x11296, .f32⟩
  | .hbm, ⟨85, _⟩ => ⟨S2x8448x4096, .f32⟩
  | .hbm, ⟨86, _⟩ => ⟨S2x8448x7168, .f32⟩
  | .hbm, ⟨87, _⟩ => ⟨S2x8448x11264, .f32⟩
  | .hbm, ⟨88, _⟩ => ⟨S2x8448x11264, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8448x11264 : Shape := ⟨3, ![2, 8448, 11264]⟩
abbrev S1x8x128 : Shape := ⟨3, ![1, 8, 128]⟩
abbrev S1x1024x2048 : Shape := ⟨3, ![1, 1024, 2048]⟩
abbrev S8x128 : Shape := ⟨2, ![8, 128]⟩
abbrev S1024x2048 : Shape := ⟨2, ![1024, 2048]⟩
abbrev S1x1024 : Shape := ⟨2, ![1, 1024]⟩
abbrev S2x8192x2048 : Shape := ⟨3, ![2, 8192, 2048]⟩
abbrev S1x512x1024 : Shape := ⟨3, ![1, 512, 1024]⟩
abbrev S1024x512 : Shape := ⟨2, ![1024, 512]⟩
abbrev S1x512x512 : Shape := ⟨3, ![1, 512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8448x11264, .bf16⟩
  | .hbm, ⟨3, _⟩ => ⟨S1x8x128, .f32⟩
  | .hbm, ⟨4, _⟩ => ⟨S2x8192x1024, .bf16⟩
  | .hbm, ⟨5, _⟩ => ⟨S1x1024x2048, .f32⟩
  | .hbm, ⟨6, _⟩ => ⟨S1x1024x2048, .f32⟩
  | .hbm, ⟨7, _⟩ => ⟨S8x128, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S1x1024, .f32⟩
  | .hbm, ⟨13, _⟩ => ⟨S2x8192x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg2
  let c0_i32 : BitVec 32 := 0#32
  ![arg0.toNat, arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg2
  let c0_i32 : BitVec 32 := 0#32
  ![arg0.toNat, arg1.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference3Ideal.lean ====
abbrev S2x8192x1024 : Shape := ⟨3, ![2, 8192, 1024]⟩
abbrev S2x8448x11264 : Shape := ⟨3, ![2, 8448, 11264]⟩
abbrev S1x8x128 : Shape := ⟨3, ![1, 8, 128]⟩
abbrev S1x1024x2048 : Shape := ⟨3, ![1, 1024, 2048]⟩
abbrev S2x8192x11264 : Shape := ⟨3, ![2, 8192, 11264]⟩
abbrev S2x8192x2048 : Shape := ⟨3, ![2, 8192, 2048]⟩
abbrev S2x8192x8x128 : Shape := ⟨4, ![2, 8192, 8, 128]⟩
abbrev S8x128 : Shape := ⟨2, ![8, 128]⟩
abbrev S_ : Shape := ⟨0, ![]⟩
abbrev S2x8192x8 : Shape := ⟨3, ![2, 8192, 8]⟩
abbrev S2x8192x8x1 : Shape := ⟨4, ![2, 8192, 8, 1]⟩
abbrev S1x1x8x128 : Shape := ⟨4, ![1, 1, 8, 128]⟩
abbrev S1024x2048 : Shape := ⟨2, ![1024, 2048]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8448x11264, .bf16⟩
  | .hbm, ⟨3, _⟩ => ⟨S1x8x128, .f32⟩
  | .hbm, ⟨4, _⟩ => ⟨S2x8192x1024, .bf16⟩
  | .hbm, ⟨5, _⟩ => ⟨S1x1024x2048, .f32⟩
  | .hbm, ⟨6, _⟩ => ⟨S1x1024x2048, .f32⟩
  | .hbm, ⟨7, _⟩ => ⟨S2x8192x11264, .bf16⟩
  | .hbm, ⟨8, _⟩ => ⟨S2x8192x11264, .f32⟩
  | .hbm, ⟨9, _⟩ => ⟨S2x8192x1024, .f32⟩
  | .hbm, ⟨10, _⟩ => ⟨S2x8192x2048, .f32⟩
  | .hbm, ⟨11, _⟩ => ⟨S2x8192x2048, .f32⟩
  | .hbm, ⟨12, _⟩ => ⟨S2x8192x1024, .f32⟩
  | .hbm, ⟨13, _⟩ => ⟨S2x8192x8x128, .f32⟩
  | .hbm, ⟨14, _⟩ => ⟨S8x128, .f32⟩
  | .hbm, ⟨15, _⟩ => ⟨S2x8192x8x128, .f32⟩
  | .hbm, ⟨16, _⟩ => ⟨S_, .f32⟩
  | .hbm, ⟨17, _⟩ => ⟨S2x8192x8, .f32⟩
  | .hbm, ⟨18, _⟩ => ⟨S2x8192x8x1, .f32⟩
  | .hbm, ⟨19, _⟩ => ⟨S_, .f32⟩
  | .hbm, ⟨20, _⟩ => ⟨S2x8192x8x1, .f32⟩
  | .hbm, ⟨21, _⟩ => ⟨S2x8192x8x1, .f32⟩
  | .hbm, ⟨22, _⟩ => ⟨S_, .f32⟩
  | .hbm, ⟨23, _⟩ => ⟨S2x8192x8x1, .f32⟩
  | .hbm, ⟨24, _⟩ => ⟨S2x8192x8x1, .f32⟩
  | .hbm, ⟨25, _⟩ => ⟨S2x8192x8x1, .f32⟩
  | .hbm, ⟨26, _⟩ => ⟨S2x8192x8x128, .f32⟩
  | .hbm, ⟨27, _⟩ => ⟨S2x8192x8x128, .f32⟩
  | .hbm, ⟨28, _⟩ => ⟨S1x1x8x128, .f32⟩
  | .hbm, ⟨29, _⟩ => ⟨S2x8192x8x128, .f32⟩
  | .hbm, ⟨30, _⟩ => ⟨S2x8192x8x128, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x2048, .f32⟩
  | .hbm, ⟨42, _⟩ => ⟨S2x8192x2048, .f32⟩
  | .hbm, ⟨43, _⟩ => ⟨S_, .f32⟩
  | .hbm, ⟨44, _⟩ => ⟨S2x8192x2048, .f32⟩
  | .hbm, ⟨45, _⟩ => ⟨S2x8192x2048, .f32⟩
  | .hbm, ⟨46, _⟩ => ⟨S_, .f32⟩
  | .hbm, ⟨47, _⟩ => ⟨S2x8192x2048, .f32⟩
  | .hbm, ⟨48, _⟩ => ⟨S2x8192x2048, .f32⟩
  | .hbm, ⟨49, _⟩ => ⟨S1024x2048, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S_, .f32⟩
  | .hbm, ⟨55, _⟩ => ⟨S2x8192x2048, .f32⟩
  | .hbm, ⟨56, _⟩ => ⟨S2x8192x2048, .f32⟩
  | .hbm, ⟨57, _⟩ => ⟨S_, .f32⟩
  | .hbm, ⟨58, _⟩ => ⟨S2x8192x2048, .f32⟩
  | .hbm, ⟨59, _⟩ => ⟨S2x8192x2048, .f32⟩
  | .hbm, ⟨60, _⟩ => ⟨S2x8192x1024, .f32⟩
  | .hbm, ⟨61, _⟩ => ⟨S1024x2048, .f32⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S2x8192x2048, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel4.lean ====
abbrev S2x8192x2048 : Shape := ⟨3, ![2, 8192, 2048]⟩
abbrev S1x2048x2048 : Shape := ⟨3, ![1, 2048, 2048]⟩
abbrev S8x12288 : Shape := ⟨2, ![8, 12288]⟩
abbrev S8x2048 : Shape := ⟨2, ![8, 2048]⟩
abbrev S2048x2048 : Shape := ⟨2, ![2048, 2048]⟩
abbrev S2x2048 : Shape := ⟨2, ![2, 2048]⟩
abbrev S2x1x2048 : Shape := ⟨3, ![2, 1, 2048]⟩
abbrev S1x512x2048 : Shape := ⟨3, ![1, 512, 2048]⟩
abbrev S2048x1024 : Shape := ⟨2, ![2048, 1024]⟩
abbrev S1x512x1024 : Shape := ⟨3, ![1, 512, 1024]⟩
abbrev S1x1x1024 : Shape := ⟨3, ![1, 1, 1024]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 15
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x2048, .f32⟩
  | .hbm, ⟨2, _⟩ => ⟨S2x8192x2048, .f32⟩
  | .hbm, ⟨3, _⟩ => ⟨S8x12288, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S2048x2048, .f32⟩
  | .hbm, ⟨11, _⟩ => ⟨S2048x2048, .bf16⟩
  | .hbm, ⟨12, _⟩ => ⟨S2x2048, .f32⟩
  | .hbm, ⟨13, _⟩ => ⟨S2x1x2048, .f32⟩
  | .hbm, ⟨14, _⟩ => ⟨S2x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S2x8192x2048 : Shape := ⟨3, ![2, 8192, 2048]⟩
abbrev S1x2048x2048 : Shape := ⟨3, ![1, 2048, 2048]⟩
abbrev S8x12288 : Shape := ⟨2, ![8, 12288]⟩
abbrev S2x12288 : Shape := ⟨2, ![2, 12288]⟩
abbrev S2x1x12288 : Shape := ⟨3, ![2, 1, 12288]⟩
abbrev S2x1x2048 : Shape := ⟨3, ![2, 1, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S1x2048x2048, .f32⟩
  | .hbm, ⟨2, _⟩ => ⟨S2x8192x2048, .f32⟩
  | .hbm, ⟨3, _⟩ => ⟨S8x12288, .f32⟩
  | .hbm, ⟨4, _⟩ => ⟨S2x12288, .f32⟩
  | .hbm, ⟨5, _⟩ => ⟨S2x1x12288, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x8192x2048, .f32⟩
  | .hbm, ⟨13, _⟩ => ⟨S2048x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2x8192x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S2x8192x2048 : Shape := ⟨3, ![2, 8192, 2048]⟩
abbrev S8x12288 : Shape := ⟨2, ![8, 12288]⟩
abbrev S2048 : Shape := ⟨1, ![2048]⟩
abbrev S8x2048 : Shape := ⟨2, ![8, 2048]⟩
abbrev S2x2048 : Shape := ⟨2, ![2, 2048]⟩
abbrev S2x1x2048 : Shape := ⟨3, ![2, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S8x12288, .f32⟩
  | .hbm, ⟨3, _⟩ => ⟨S2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S2x2048, .f32⟩
  | .hbm, ⟨11, _⟩ => ⟨S2x1x2048, .f32⟩
  | .hbm, ⟨12, _⟩ => ⟨S1x2048, .f32⟩
  | .hbm, ⟨13, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x512x2048, .f32⟩
  | .local _ .vmem, ⟨8, _⟩ => ⟨S1x512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2x8192x2048 : Shape := ⟨3, ![2, 8192, 2048]⟩
abbrev S8x12288 : Shape := ⟨2, ![8, 12288]⟩
abbrev S2048 : Shape := ⟨1, ![2048]⟩
abbrev S2x12288 : Shape := ⟨2, ![2, 12288]⟩
abbrev S2x1x12288 : Shape := ⟨3, ![2, 1, 12288]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S8x12288, .f32⟩
  | .hbm, ⟨3, _⟩ => ⟨S2048, .f32⟩
  | .hbm, ⟨4, _⟩ => ⟨S2x12288, .f32⟩
  | .hbm, ⟨5, _⟩ => ⟨S2x1x12288, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x2048, .f32⟩
  | .hbm, ⟨27, _⟩ => ⟨S2x8192x2048, .f32⟩
  | .hbm, ⟨28, _⟩ => ⟨S1x1x2048, .f32⟩
  | .hbm, ⟨29, _⟩ => ⟨S2x8192x2048, .f32⟩
  | .hbm, ⟨30, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel6.lean ====
abbrev S2x8192x2048 : Shape := ⟨3, ![2, 8192, 2048]⟩
abbrev S8x12288 : Shape := ⟨2, ![8, 12288]⟩
abbrev S1x2048 : Shape := ⟨2, ![1, 2048]⟩
abbrev S1x2048x2048 : Shape := ⟨3, ![1, 2048, 2048]⟩
abbrev S8x2048 : Shape := ⟨2, ![8, 2048]⟩
abbrev S2048 : Shape := ⟨1, ![2048]⟩
abbrev S2x2048 : Shape := ⟨2, ![2, 2048]⟩
abbrev S2x1x2048 : Shape := ⟨3, ![2, 1, 2048]⟩
abbrev S2x2x2048 : Shape := ⟨3, ![2, 2, 2048]⟩
abbrev S2048x2048 : Shape := ⟨2, ![2048, 2048]⟩
abbrev S_ : Shape := ⟨0, ![]⟩
abbrev S1x512x2048 : Shape := ⟨3, ![1, 512, 2048]⟩
abbrev S1x2x2048 : Shape := ⟨3, ![1, 2, 2048]⟩
abbrev S2048x1024 : Shape := ⟨2, ![2048, 1024]⟩
abbrev S1x1024 : Shape := ⟨2, ![1, 1024]⟩
abbrev S1x512x1024 : Shape := ⟨3, ![1, 512, 1024]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S512x1024 : Shape := ⟨2, ![512, 1024]⟩

abbrev nBuf : Space → Nat
  | .hbm => 31
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S8x12288, .f32⟩
  | .hbm, ⟨2, _⟩ => ⟨S1x2048, .f32⟩
  | .hbm, ⟨3, _⟩ => ⟨S1x2048x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S2048, .f32⟩
  | .hbm, ⟨11, _⟩ => ⟨S2x2048, .f32⟩
  | .hbm, ⟨12, _⟩ => ⟨S1x2048, .f32⟩
  | .hbm, ⟨13, _⟩ => ⟨S2x2048, .f32⟩
  | .hbm, ⟨14, _⟩ => ⟨S2x1x2048, .f32⟩
  | .hbm, ⟨15, _⟩ => ⟨S2x1x2048, .f32⟩
  | .hbm, ⟨16, _⟩ => ⟨S2x2x2048, .f32⟩
  | .hbm, ⟨17, _⟩ => ⟨S2x2048, .f32⟩
  | .hbm, ⟨18, _⟩ => ⟨S1x2048, .f32⟩
  | .hbm, ⟨19, _⟩ => ⟨S2x2048, .f32⟩
  | .hbm, ⟨20, _⟩ => ⟨S2x1x2048, .f32⟩
  | .hbm, ⟨21, _⟩ => ⟨S2x1x2048, .f32⟩
  | .hbm, ⟨22, _⟩ => ⟨S2x2x2048, .f32⟩
  | .hbm, ⟨23, _⟩ => ⟨S2048x2048, .f32⟩
  | .hbm, ⟨24, _⟩ => ⟨S2048x2048, .bf16⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S1x2048, .f32⟩
  | .hbm, ⟨29, _⟩ => ⟨S2x8192x2048, .bf16⟩
  | .hbm, ⟨30, _⟩ => ⟨S2x8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x2048, .bf16⟩
  | .local _ .vmem, ⟨14, _⟩ => ⟨S1x512x2048, .bf16⟩
  | .local _ .vmem, ⟨15, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 16, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference6Ideal.lean ====
abbrev S2x8192x2048 : Shape := ⟨3, ![2, 8192, 2048]⟩
abbrev S8x12288 : Shape := ⟨2, ![8, 12288]⟩
abbrev S1x2048 : Shape := ⟨2, ![1, 2048]⟩
abbrev S1x2048x2048 : Shape := ⟨3, ![1, 2048, 2048]⟩
abbrev S2x12288 : Shape := ⟨2, ![2, 12288]⟩
abbrev S2x1x12288 : Shape := ⟨3, ![2, 1, 12288]⟩
abbrev S2x1x2048 : Shape := ⟨3, ![2, 1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x2048 : Shape := ⟨2, ![2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8x12288, .f32⟩
  | .hbm, ⟨2, _⟩ => ⟨S1x2048, .f32⟩
  | .hbm, ⟨3, _⟩ => ⟨S1x2048x2048, .f32⟩
  | .hbm, ⟨4, _⟩ => ⟨S2x12288, .f32⟩
  | .hbm, ⟨5, _⟩ => ⟨S2x1x12288, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S_, .f32⟩
  | .hbm, ⟨30, _⟩ => ⟨S2x1x2048, .f32⟩
  | .hbm, ⟨31, _⟩ => ⟨S2x1x2048, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S2x8192x2048, .f32⟩
  | .hbm, ⟨36, _⟩ => ⟨S2048x2048, .f32⟩
  | .hbm, ⟨37, _⟩ => ⟨S2x8192x2048, .f32⟩
  | .hbm, ⟨38, _⟩ => ⟨S2x8192x2048, .bf16⟩
  | .hbm, ⟨39, _⟩ => ⟨S2x8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel7.lean ====
abbrev S2x8192x2048 : Shape := ⟨3, ![2, 8192, 2048]⟩
abbrev S16384x16384 : Shape := ⟨2, ![16384, 16384]⟩
abbrev S1x16384x2048 : Shape := ⟨3, ![1, 16384, 2048]⟩
abbrev S16384x2048 : Shape := ⟨2, ![16384, 2048]⟩
abbrev S2048x16384 : Shape := ⟨2, ![2048, 16384]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S16384x16384, .bf16⟩
  | .hbm, ⟨2, _⟩ => ⟨S1x16384x2048, .f32⟩
  | .hbm, ⟨3, _⟩ => ⟨S1x16384x2048, .f32⟩
  | .hbm, ⟨4, _⟩ => ⟨S16384x2048, .bf16⟩
  | .hbm, ⟨5, _⟩ => ⟨S16384x2048, .f32⟩
  | .hbm, ⟨6, _⟩ => ⟨S2048x16384, .f32⟩
  | .hbm, ⟨7, _⟩ => ⟨S2048x16384, .bf16⟩
  | .hbm, ⟨8, _⟩ => ⟨S16384x2048, .f32⟩
  | .hbm, ⟨9, _⟩ => ⟨S16384x2048, .bf16⟩
  | .hbm, ⟨10, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S2x8192x2048 : Shape := ⟨3, ![2, 8192, 2048]⟩
abbrev S16384x16384 : Shape := ⟨2, ![16384, 16384]⟩
abbrev S1x16384x2048 : Shape := ⟨3, ![1, 16384, 2048]⟩
abbrev S16384x2048 : Shape := ⟨2, ![16384, 2048]⟩
abbrev S2048x16384 : Shape := ⟨2, ![2048, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S16384x16384, .bf16⟩
  | .hbm, ⟨2, _⟩ => ⟨S1x16384x2048, .f32⟩
  | .hbm, ⟨3, _⟩ => ⟨S1x16384x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S2048x16384, .f32⟩
  | .hbm, ⟨8, _⟩ => ⟨S16384x16384, .f32⟩
  | .hbm, ⟨9, _⟩ => ⟨S_, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S16384x2048, .f32⟩
  | .hbm, ⟨21, _⟩ => ⟨S16384x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.QueryBody.lean ====
/-
  The second norm with its modulation and the query projection, idealized: what a grid point leaves in the buffers it
  writes, in closed form.

  The grid is (batch, row tile, column tile), two column tiles. At column tile 0 the body normalises and modulates its
  rows, keeps them in its scratch buffer and stores them as the second output; at either column tile it multiplies the
  kept rows by a block of the weights. The second output's buffer is written back after column tile 1, where the body
  does not touch it: it then still holds what column tile 0 stored.
-/
module

public import proofs.«01_k».proof.Proof.Gen.Kernel6Ideal.Frame
public import proofs.«01_k».proof.Proof.Gen.Kernel6Ideal.Skeleton
public import Idealize.ShloMosaic.Lib.Claim
public import Idealize.ShloMosaic.Lib.Pipeline.ValueKit
public import Idealize.ShloMosaic.Lib.Tactic
public import Idealize.ShloMosaic.Lib.WordCmp

@[expose] public section

set_option maxRecDepth 16384

noncomputable section

namespace Cert.QueryProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Assertions over the machine's memory. -/
abbrev Asn (F : FTy → Type) : Type := sProp (MT nD τ sig Unit (Elt F) ℕ (UR sig nD τ) ℕ)

/-! ## The contents -/

theorem zero3 : (![0, 0, 0] : Fin 3 → Nat) = fun _ => 0 := funext fun a => by fin_cases a <;> rfl
theorem zero2 : (![0, 0] : Fin 2 → Nat) = fun _ => 0 := funext fun a => by fin_cases a <;> rfl

/-- Row `o` of a pair of rows. -/
def pick (o : Fin 2) (X : Vec F S1x2x2048 .f32) : Vec F S1x1x2048 .f32 := fun j => X (ix3 0 o (j 2))

theorem ld_one (X : Vec F S1x2x2048 .f32) (inb : _) :
    (fun j => X ((Rect.unit (s := S1x2x2048) ![0, 1, 0] ![1, 1, 2048] inb).toLoadRect.idx j)) = pick 1 X := by
  funext j
  exact congrArg X (funext fun a => Fin.ext (by
    have h0 : (j 0).val < 1 := (j 0).isLt
    have h1 : (j 1).val < 1 := (j 1).isLt
    match a with
    | ⟨0, _⟩ => show 0 + 1 * (j 0).val = 0; omega
    | ⟨1, _⟩ => show 1 + 1 * (j 1).val = 1; omega
    | ⟨2, _⟩ => show 0 + 1 * (j 2).val = (j 2).val; omega))

theorem ld_zero (X : Vec F S1x2x2048 .f32) (inb : _) :
    (fun j => X ((Rect.unit (s := S1x2x2048) ![0, 0, 0] ![1, 1, 2048] inb).toLoadRect.idx j)) = pick 0 X := by
  funext j
  exact congrArg X (funext fun a => Fin.ext (by
    have h0 : (j 0).val < 1 := (j 0).isLt
    have h1 : (j 1).val < 1 := (j 1).isLt
    match a with
    | ⟨0, _⟩ => show 0 + 1 * (j 0).val = 0; omega
    | ⟨1, _⟩ => show 0 + 1 * (j 1).val = 0; omega
    | ⟨2, _⟩ => show 0 + 1 * (j 2).val = (j 2).val; omega))

/-- The rows a point of column tile 0 keeps, -/
def kept (a : BitVec 32) (x0 : Vec F S1x512x2048 .f32) (x1 : Vec F S1x2048 .f32) (x2 x3 : Vec F S1x2x2048 .f32) :
    Vec F S512x2048 .bf16 :=
  k0_pay2 (k0_pay5 x0 x1) (k0_pay7 a (pick 1 x2) (pick 0 x2)) (k0_pay8 (pick 1 x3)) (k0_pay9 (pick 0 x3)) (k0_pay10 a)

/-- and stores. -/
def rows (a : BitVec 32) (x0 : Vec F S1x512x2048 .f32) (x1 : Vec F S1x2048 .f32) (x2 x3 : Vec F S1x2x2048 .f32) :
    Vec F S1x512x2048 .bf16 :=
  k0_pay3 (k0_pay5 x0 x1) (k0_pay7 a (pick 1 x2) (pick 0 x2)) (k0_pay8 (pick 1 x3)) (k0_pay9 (pick 0 x3)) (k0_pay10 a)

/-! ## The body -/

section Body

variable (c : Dev nD) (i : grid0.Coords)
  (a3 : Memref sig .tc .vmem S1x512x2048 .f32) (h3 : a3.IsWhole)
  (a4 : Memref sig .tc .vmem S1x2048 .f32) (h4 : a4.IsWhole)
  (a5 : Memref sig .tc .vmem S1x2x2048 .f32) (h5 : a5.IsWhole)
  (a6 : Memref sig .tc .vmem S1x2x2048 .f32) (h6 : a6.IsWhole)
  (a7 : Memref sig .tc .vmem S2048x1024 .bf16) (h7 : a7.IsWhole)
  (a8 : Memref sig .tc .vmem S1x1024 .f32) (h8 : a8.IsWhole)
  (a9 : Memref sig .tc .vmem S1x512x1024 .bf16) (h9 : a9.IsWhole)
  (a10 : Memref sig .tc .vmem S1x512x2048 .bf16) (h10 : a10.IsWhole)
  (a11 : Memref sig .tc .vmem S512x2048 .bf16) (h11 : a11.IsWhole)
  (x0 : Vec F S1x512x2048 .f32) (x1 : Vec F S1x2048 .f32) (x2 x3 : Vec F S1x2x2048 .f32)
  (x4 : Vec F S2048x1024 .bf16) (x5 : Vec F S1x1024 .f32) (y : Vec F S1x512x2048 .bf16) (s : Vec F S512x2048 .bf16)

/-- The six inputs' buffers at their contents. -/
def ins : Asn F :=
  iprop(owns (c : Thread nD τ) a3 fullShare x0 ∗ owns (c : Thread nD τ) a4 fullShare x1
    ∗ owns (c : Thread nD τ) a5 fullShare x2 ∗ owns (c : Thread nD τ) a6 fullShare x3
    ∗ owns (c : Thread nD τ) a7 fullShare x4 ∗ owns (c : Thread nD τ) a8 fullShare x5)

set_option maxHeartbeats 1000000 in
/-- At column tile 0 the body computes its rows, keeps and stores them, and stores their product. -/
theorem body_first (hc : k0_cond1 i = 1#1) (E : Set ℕ) (K : PUnit → Asn F) :
    iprop(ins c a3 a4 a5 a6 a7 a8 x0 x1 x2 x3 x4 x5
        ∗ (∃ d, owns (c : Thread nD τ) a9 fullShare d) ∗ (∃ d, owns (c : Thread nD τ) a10 fullShare d)
        ∗ (∃ d, owns (c : Thread nD τ) a11 fullShare d)
        ∗ (iprop(ins c a3 a4 a5 a6 a7 a8 x0 x1 x2 x3 x4 x5
            ∗ owns (c : Thread nD τ) a9 fullShare (k0_pay4 (kept (BitVec.ofNat 32 (i 1).val) x0 x1 x2 x3) x4 x5)
            ∗ owns (c : Thread nD τ) a10 fullShare (rows (BitVec.ofNat 32 (i 1).val) x0 x1 x2 x3)
            ∗ owns (c : Thread nD τ) a11 fullShare (kept (BitVec.ofNat 32 (i 1).val) x0 x1 x2 x3)) -∗ K ⟨⟩))
      ⊢ wp frame (wpE (defs₀ (F := F)) Variants.none c none) E
          (cc0_norm_mod_matmul i a3 h3 a4 h4 a5 h5 a6 h6 a7 h7 a8 h8 a9 h9 a10 h10 a11 h11) K := by
  simp only [cc0_norm_mod_matmul_eq_skeleton]; unfold cc0_norm_mod_matmul_skel
  simp only [k0_part1_eq_skeleton]
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%d6, %f6, -, H6⟩, ⟨%d7, %f7, -, H7⟩, ⟨%d8, %f8, -, H8⟩, Hk⟩
  obtain rfl := h3.eq_unread e0; obtain rfl := h4.eq_unread e1; obtain rfl := h5.eq_unread e2
  obtain rfl := h6.eq_unread e3; obtain rfl := h7.eq_unread e4; obtain rfl := h8.eq_unread e5
  sl_exec (disch := first | sl_exact hc)
  sl_step
  iapply Hk
  isplitl [H0 H1 H2 H3 H4 H5]
  · isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    iexists _; isplitr; · ipureintro; exact h8.read_unread _
    iexact H5
  isplitl [H6]
  · iexists _; isplitr
    swap; · iexact H6
    ipureintro
    sl_unfold_words
    rw [View.read_writes_eq_canon _ _ _ (fun z => ⟨_, List.mem_cons_self .., View.mem_set_unit_zero zero3 inb_S1x512x1024_S1x512x1024_0_0_0 z⟩),
      View.canon_unit_zero (S := S1x512x1024) zero3]
    simp only [View.readAt_eq_ld, h3.read_unread, h4.read_unread, h5.read_unread, h6.read_unread, h7.read_unread,
      h8.read_unread, View.ld_unit_zero (S := S1x512x2048) zero3, View.ld_unit_zero (S := S1x2048) zero2,
      View.ld_unit_zero (S := S2048x1024) zero2, View.ld_unit_zero (S := S1x1024) zero2,
      View.ld_unit_zero (S := S512x2048) zero2, View.readCov_unit_zero (S := S512x2048) _ zero2]
    unfold kept
    rw [← ld_one x2 inb_S1x2x2048_S1x1x2048_0_1_0, ← ld_zero x2 inb_S1x2x2048_S1x1x2048_0_0_0,
      ← ld_one x3 inb_S1x2x2048_S1x1x2048_0_1_0, ← ld_zero x3 inb_S1x2x2048_S1x1x2048_0_0_0]
  isplitl [H7]
  · iexists _; isplitr
    swap; · iexact H7
    ipureintro
    sl_unfold_words
    rw [View.read_writes_eq_canon _ _ _ (fun z => ⟨_, List.mem_cons_self .., View.mem_set_unit_zero zero3 inb_S1x512x2048_S1x512x2048_0_0_0 z⟩),
      View.canon_unit_zero (S := S1x512x2048) zero3]
    simp only [View.readAt_eq_ld, h3.read_unread, h4.read_unread, h5.read_unread, h6.read_unread,
      View.ld_unit_zero (S := S1x512x2048) zero3, View.ld_unit_zero (S := S1x2048) zero2]
    unfold rows
    rw [← ld_one x2 inb_S1x2x2048_S1x1x2048_0_1_0, ← ld_zero x2 inb_S1x2x2048_S1x1x2048_0_0_0,
      ← ld_one x3 inb_S1x2x2048_S1x1x2048_0_1_0, ← ld_zero x3 inb_S1x2x2048_S1x1x2048_0_0_0]
  iexists _; isplitr
  swap; · iexact H8
  ipureintro
  sl_unfold_words
  rw [View.read_writes_eq_canon _ _ _ (fun z => ⟨_, List.mem_cons_self .., View.mem_set_unit_zero zero2 inb_S512x2048_S512x2048_0_0 z⟩),
    View.canon_unit_zero (S := S512x2048) zero2]
  simp only [View.readAt_eq_ld, h3.read_unread, h4.read_unread, h5.read_unread, h6.read_unread,
    View.ld_unit_zero (S := S1x512x2048) zero3, View.ld_unit_zero (S := S1x2048) zero2]
  unfold kept
  rw [← ld_one x2 inb_S1x2x2048_S1x1x2048_0_1_0, ← ld_zero x2 inb_S1x2x2048_S1x1x2048_0_0_0,
    ← ld_one x3 inb_S1x2x2048_S1x1x2048_0_1_0, ← ld_zero x3 inb_S1x2x2048_S1x1x2048_0_0_0]

set_option maxHeartbeats 1000000 in
/-- At column tile 1 the body stores the kept rows' product with its block of the weights; the second output's buffer
    and the scratch buffer stay as they were. -/
theorem body_later (hc : ¬k0_cond1 i = 1#1) (E : Set ℕ) (K : PUnit → Asn F) :
    iprop(ins c a3 a4 a5 a6 a7 a8 x0 x1 x2 x3 x4 x5
        ∗ (∃ d, owns (c : Thread nD τ) a9 fullShare d) ∗ owns (c : Thread nD τ) a10 fullShare y
        ∗ owns (c : Thread nD τ) a11 fullShare s
        ∗ (iprop(ins c a3 a4 a5 a6 a7 a8 x0 x1 x2 x3 x4 x5
            ∗ owns (c : Thread nD τ) a9 fullShare (k0_pay4 s x4 x5)
            ∗ owns (c : Thread nD τ) a10 fullShare y
            ∗ owns (c : Thread nD τ) a11 fullShare s) -∗ K ⟨⟩))
      ⊢ wp frame (wpE (defs₀ (F := F)) Variants.none c none) E
          (cc0_norm_mod_matmul i a3 h3 a4 h4 a5 h5 a6 h6 a7 h7 a8 h8 a9 h9 a10 h10 a11 h11) K := by
  simp only [cc0_norm_mod_matmul_eq_skeleton]; unfold cc0_norm_mod_matmul_skel
  simp only [k0_part1_eq_skeleton]
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%d6, %f6, -, H6⟩, ⟨%f7, %e7, H7⟩, ⟨%f8, %e8, H8⟩, Hk⟩
  obtain rfl := h3.eq_unread e0; obtain rfl := h4.eq_unread e1; obtain rfl := h5.eq_unread e2
  obtain rfl := h6.eq_unread e3; obtain rfl := h7.eq_unread e4; obtain rfl := h8.eq_unread e5
  obtain rfl := h10.eq_unread e7; obtain rfl := h11.eq_unread e8
  sl_exec (disch := first | sl_exact hc)
  sl_step
  iapply Hk
  isplitl [H0 H1 H2 H3 H4 H5]
  · isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    iexists _; isplitr; · ipureintro; exact h8.read_unread _
    iexact H5
  isplitl [H6]
  · iexists _; isplitr
    swap; · iexact H6
    ipureintro
    sl_unfold_words
    rw [View.read_writes_eq_canon _ _ _ (fun z => ⟨_, List.mem_cons_self .., View.mem_set_unit_zero zero3 inb_S1x512x1024_S1x512x1024_0_0_0 z⟩),
      View.canon_unit_zero (S := S1x512x1024) zero3]
    simp only [View.readAt_eq_ld, h7.read_unread, h8.read_unread, h11.read_unread,
      View.ld_unit_zero (S := S2048x1024) zero2, View.ld_unit_zero (S := S1x1024) zero2,
      View.ld_unit_zero (S := S512x2048) zero2]
  isplitl [H7]
  · iexists _; isplitr; · ipureintro; exact h10.read_unread _
    iexact H7
  iexists _; isplitr; · ipureintro; exact h11.read_unread _
  iexact H8

end Body

end Cert.QueryProj

end
-- ==== Proof.QueryFrame.lean ====
/-
  The second norm with its modulation and the query projection, idealized: what every buffer holds at every grid point,
  and from it that the program runs to its end and leaves its arguments unchanged.
-/
module

public import proofs.«01_k».proof.Proof.QueryBody

@[expose] public section

set_option maxRecDepth 16384

noncomputable section

namespace Cert.QueryProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The points -/

theorem lt64 (t : Fin cfg0.N) : t.val < 64 := Nat.lt_of_lt_of_eq t.isLt N_0

/-- Column tile 0 is at the even points. -/
theorem cond_iff (t : Fin cfg0.N) : k0_cond1 (grid0.coords t) = 1#1 ↔ t.val % 2 = 0 := by
  have ht := lt64 t
  have e2 : (grid0.coords t 2).val = t.val / 1 % 2 := Pipeline.Grid.coords_val t 2 (by decide) rfl
  simp only [k0_cond1, e2]
  word_cmp

/-- The point of column tile 0 with the same rows. -/
def base (t : Fin cfg0.N) : Fin cfg0.N := ⟨t.val / 2 * 2, lt_of_le_of_lt (Nat.div_mul_le_self _ _) t.isLt⟩

theorem base_even (t : Fin cfg0.N) (h : t.val % 2 = 0) : base t = t := Fin.ext (by unfold base; show t.val / 2 * 2 = t.val; omega)

theorem base_odd (t : Fin cfg0.N) (h : t.val % 2 = 1) :
    base ⟨t.val - 1, Nat.lt_of_le_of_lt (Nat.sub_le _ _) t.isLt⟩ = base t :=
  Fin.ext (by unfold base; show (t.val - 1) / 2 * 2 = t.val / 2 * 2; omega)

/-- The rows kept at point `t`. -/
def keptAt (c : Dev nD) (t : Fin cfg0.N) : Vec F S512x2048 .bf16 :=
  kept (BitVec.ofNat 32 (grid0.coords (base t) 1).val) (iblk m c 0 (base t)) (iblk m c 1 (base t)) (iblk m c 2 (base t))
    (iblk m c 3 (base t))

/-- The rows in the second output's buffer after point `t`. -/
def rowsAt (c : Dev nD) (t : Fin cfg0.N) : Vec F S1x512x2048 .bf16 :=
  rows (BitVec.ofNat 32 (grid0.coords (base t) 1).val) (iblk m c 0 (base t)) (iblk m c 1 (base t)) (iblk m c 2 (base t))
    (iblk m c 3 (base t))

/-- The scratch buffer. -/
abbrev scr : Memref sig .tc .vmem S512x2048 .bf16 := Memref.whole cc0_scratch0

theorem rest_eq (c : Dev nD) :
    (Pipeline.ΦA spec0 c : Asn F)
      = iprop(iprop((∃ d, owns (c : Thread nD τ) scr fullShare d)) ∗ (∃ r, prngReg c r)) := by
  unfold Pipeline.ΦA; rw [scopedRest0_eq]; simp only [scr, owns_whole]; try rfl

/-- Before the first point the scratch buffer holds anything, after a point the rows kept there. -/
def inv (c : Dev nD) : (n : ℕ) → n ≤ cfg0.N → Asn F
  | 0, _ => Pipeline.ΦA spec0 c
  | n + 1, hn => iprop(owns (c : Thread nD τ) scr fullShare (keptAt m c ⟨n, hn⟩) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(owns (c : Thread nD τ) scr fullShare (keptAt m c ⟨n, hn⟩) ∗ (∃ r, prngReg c r)) := rfl

theorem inv_pos (c : Dev nD) (n : ℕ) (h : n ≤ cfg0.N) (hz : n ≠ 0) :
    inv m c n h = iprop(owns (c : Thread nD τ) scr fullShare (keptAt m c ⟨n - 1, by omega⟩) ∗ (∃ r, prngReg c r)) := by
  cases n with
  | zero => exact absurd rfl hz
  | succ n => rfl

/-- At any position the scratch buffer holds something. -/
theorem inv_any (c : Dev nD) (n : ℕ) (h : n ≤ cfg0.N) :
    inv m c n h ⊢ (iprop(iprop((∃ d, owns (c : Thread nD τ) scr fullShare d)) ∗ (∃ r, prngReg c r)) : Asn F) := by
  by_cases hz : n = 0
  · rw [inv_zero m c n h hz, rest_eq]
  · rw [inv_pos m c n h hz]
    iintro ⟨H, Hg⟩
    isplitl [H]
    · iexists _; iexact H
    iexact Hg

/-! ## What every buffer holds -/

/-- The proof data: an input's buffer its block; the first output's the product; the second output's the rows. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (keptAt m c t) (iblk m c 4 t) (iblk m c 5 t)
    | ⟨7, _⟩ => rowsAt m c t
  Φ t := inv m c t.val (Nat.le_of_lt_succ t.isLt)
  q _ := fullShare
  owed _ := 0

theorem data_A (c : Dev nD) (w : Fin cfg0.W) : (data m 0 c).A w = V m c (Pipeline.arrRef spec0 w) := by
  dsimp only [data]

theorem data_inv (c : Dev nD) (t : Fin cfg0.N) :
    (data m 0 c).Φ t.castSucc = inv m c t.val (Nat.le_of_lt t.isLt) := by
  dsimp only [data]; exact Pipeline.Dat.Φ_castSucc (inv m c) t

theorem left_0 (c : Dev nD) (t : Fin cfg0.N) : (data m 0 c).after 0 t = iblk m c 0 t := by dsimp only [data]
theorem left_1 (c : Dev nD) (t : Fin cfg0.N) : (data m 0 c).after 1 t = iblk m c 1 t := by dsimp only [data]
theorem left_2 (c : Dev nD) (t : Fin cfg0.N) : (data m 0 c).after 2 t = iblk m c 2 t := by dsimp only [data]
theorem left_3 (c : Dev nD) (t : Fin cfg0.N) : (data m 0 c).after 3 t = iblk m c 3 t := by dsimp only [data]
theorem left_4 (c : Dev nD) (t : Fin cfg0.N) : (data m 0 c).after 4 t = iblk m c 4 t := by dsimp only [data]
theorem left_5 (c : Dev nD) (t : Fin cfg0.N) : (data m 0 c).after 5 t = iblk m c 5 t := by dsimp only [data]
theorem left_6 (c : Dev nD) (t : Fin cfg0.N) :
    (data m 0 c).after 6 t = k0_pay4 (keptAt m c t) (iblk m c 4 t) (iblk m c 5 t) := by dsimp only [data]
theorem left_7 (c : Dev nD) (t : Fin cfg0.N) : (data m 0 c).after 7 t = rowsAt m c t := by dsimp only [data]

theorem found_0 (c : Dev nD) (t : Fin cfg0.N) (d) : (data m 0 c).before 0 t d = iblk m c 0 t :=
  before0_0_of m (data m 0 c) (data_A m c 0) (left_0 m c) t d
theorem found_1 (c : Dev nD) (t : Fin cfg0.N) (d) : (data m 0 c).before 1 t d = iblk m c 1 t :=
  before0_1_of m (data m 0 c) (data_A m c 1) (left_1 m c) t d
theorem found_2 (c : Dev nD) (t : Fin cfg0.N) (d) : (data m 0 c).before 2 t d = iblk m c 2 t :=
  before0_2_of m (data m 0 c) (data_A m c 2) (left_2 m c) t d
theorem found_3 (c : Dev nD) (t : Fin cfg0.N) (d) : (data m 0 c).before 3 t d = iblk m c 3 t :=
  before0_3_of m (data m 0 c) (data_A m c 3) (left_3 m c) t d
theorem found_4 (c : Dev nD) (t : Fin cfg0.N) (d) : (data m 0 c).before 4 t d = iblk m c 4 t :=
  before0_4_of m (data m 0 c) (data_A m c 4) (left_4 m c) t d
theorem found_5 (c : Dev nD) (t : Fin cfg0.N) (d) : (data m 0 c).before 5 t d = iblk m c 5 t :=
  before0_5_of m (data m 0 c) (data_A m c 5) (left_5 m c) t d

theorem idle_7 (t : Fin cfg0.N) (h : t.val % 2 = 0) : cfg0.idle 7 (cfg0.grid.coords t) = false := by
  show (!(k0_cond1 (grid0.coords t) == 1#1)) = false
  rw [(cond_iff t).mpr h]; rfl

theorem flush_even (t : Fin cfg0.N) (h : t.val % 2 = 0) : (cfg0.win 7).flush t = false :=
  Bool.eq_false_iff.mpr fun hf => by have := (flush0_7 t).mp hf; omega

/-- At column tile 1 the second output's buffer still holds the rows stored at column tile 0. -/
theorem found_7 (c : Dev nD) (t : Fin cfg0.N) (h : t.val % 2 = 1) (d) : (data m 0 c).before 7 t d = rowsAt m c t := by
  have e : (t.val - 1) % 2 = 0 := by omega
  rw [(data m 0 c).before_of_pos 7 t (by omega) ((cfg0.win 7).fetch_out rfl t), flush_even _ e, if_neg Bool.false_ne_true]
  unfold Dat.left
  rw [idle_7 _ e]
  show (cfg0.win 7).fill _ d ((cfg0.win 7).cut _ ((data m 0 c).after 7 _)) = _
  rw [left_7]
  show rowsAt m c ⟨t.val - 1, _⟩ = rowsAt m c t
  unfold rowsAt
  rw [base_odd t h]

/-- After the body the second output's buffer holds the rows, at either column tile. -/
theorem leaves_7 (c : Dev nD) (t : Fin cfg0.N) :
    (data m 0 c).leavesExact 7 t
      = (owns (c : Thread nD τ) ((cfg0.win 7).stage (cfg0.slots t 7)) fullShare (rowsAt m c t) : Asn F) := by
  unfold Dat.leavesExact
  rcases Nat.mod_two_eq_zero_or_one t.val with h | h
  · rw [idle_7 t h]; dsimp only; rw [left_7]
  · rw [(flush0_7 t).mpr h]
    cases cfg0.idle 7 (cfg0.grid.coords t) <;> dsimp only <;> rw [left_7]

/-! ## The body at a point -/

/-- Window `w`'s buffer at point `t`. -/
abbrev b0 (t : Fin cfg0.N) : Memref sig .tc .vmem S1x512x2048 .f32 := win0_0.stage (cfg0.slots t 0)
abbrev b1 (t : Fin cfg0.N) : Memref sig .tc .vmem S1x2048 .f32 := win0_1.stage (cfg0.slots t 1)
abbrev b2 (t : Fin cfg0.N) : Memref sig .tc .vmem S1x2x2048 .f32 := win0_2.stage (cfg0.slots t 2)
abbrev b3 (t : Fin cfg0.N) : Memref sig .tc .vmem S1x2x2048 .f32 := win0_3.stage (cfg0.slots t 3)
abbrev b4 (t : Fin cfg0.N) : Memref sig .tc .vmem S2048x1024 .bf16 := win0_4.stage (cfg0.slots t 4)
abbrev b5 (t : Fin cfg0.N) : Memref sig .tc .vmem S1x1024 .f32 := win0_5.stage (cfg0.slots t 5)
abbrev b6 (t : Fin cfg0.N) : Memref sig .tc .vmem S1x512x1024 .bf16 := win0_6.stage (cfg0.slots t 6)
abbrev b7 (t : Fin cfg0.N) : Memref sig .tc .vmem S1x512x2048 .bf16 := win0_7.stage (cfg0.slots t 7)

/-- What the body is given at point `t`, -/
def given (c : Dev nD) (t : Fin cfg0.N) : Asn F :=
  iprop((data m 0 c).Φ t.castSucc ∗ (data m 0 c).owesAt () t.castSucc
    ∗ (∃ d, owns (c : Thread nD τ) (b0 t) fullShare ((data m 0 c).before 0 t d))
    ∗ (∃ d, owns (c : Thread nD τ) (b1 t) fullShare ((data m 0 c).before 1 t d))
    ∗ (∃ d, owns (c : Thread nD τ) (b2 t) fullShare ((data m 0 c).before 2 t d))
    ∗ (∃ d, owns (c : Thread nD τ) (b3 t) fullShare ((data m 0 c).before 3 t d))
    ∗ (∃ d, owns (c : Thread nD τ) (b4 t) fullShare ((data m 0 c).before 4 t d))
    ∗ (∃ d, owns (c : Thread nD τ) (b5 t) fullShare ((data m 0 c).before 5 t d))
    ∗ (∃ d, owns (c : Thread nD τ) (b6 t) fullShare ((data m 0 c).before 6 t d))
    ∗ (∃ d, owns (c : Thread nD τ) (b7 t) fullShare ((data m 0 c).before 7 t d)))

/-- and what it returns. -/
def returned (c : Dev nD) (t : Fin cfg0.N) : Asn F :=
  iprop((data m 0 c).Φ t.succ ∗ (data m 0 c).owesAt () t.succ
    ∗ owns (c : Thread nD τ) (b0 t) fullShare ((data m 0 c).after 0 t)
    ∗ owns (c : Thread nD τ) (b1 t) fullShare ((data m 0 c).after 1 t)
    ∗ owns (c : Thread nD τ) (b2 t) fullShare ((data m 0 c).after 2 t)
    ∗ owns (c : Thread nD τ) (b3 t) fullShare ((data m 0 c).after 3 t)
    ∗ owns (c : Thread nD τ) (b4 t) fullShare ((data m 0 c).after 4 t)
    ∗ owns (c : Thread nD τ) (b5 t) fullShare ((data m 0 c).after 5 t)
    ∗ owns (c : Thread nD τ) (b6 t) fullShare ((data m 0 c).after 6 t)
    ∗ owns (c : Thread nD τ) (b7 t) fullShare (rowsAt m c t))

set_option maxHeartbeats 6400000 in
/-- The body at any point. -/
theorem body_at (c : Dev nD) (t : Fin cfg0.N) :
    given m c t ⊢ wp frame (wpE (defs₀ (F := F)) Variants.none c none) Set.univ (bodyAt0 t) (fun _ => returned m c t) := by
  unfold given returned bodyAt0
  simp only [found_0, found_1, found_2, found_3, found_4, found_5]
  rw [show (data m 0 c).owesAt () t.succ = (data m 0 c).owesAt () t.castSucc from rfl,
    left_0, left_1, left_2, left_3, left_4, left_5, left_6,
    show (data m 0 c).Φ t.succ = inv m c (t.val + 1) t.isLt from rfl, inv_succ, data_inv m c t]
  rcases Nat.mod_two_eq_zero_or_one t.val with h | h
  · unfold keptAt rowsAt
    rw [base_even t h]
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
    ihave ⟨HS, Hg⟩ := (inv_any m c t.val (Nat.le_of_lt t.isLt)) $$ HI
    iapply (body_first c (grid0.coords t) _ _ _ _ _ _ _ _ _ _ _ _ _ _ _ _ _ _ (iblk m c 0 t) (iblk m c 1 t) (iblk m c 2 t)
      (iblk m c 3 t) (iblk m c 4 t) (iblk m c 5 t) ((cond_iff t).mpr h) Set.univ _)
    unfold ins
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [HS]; · iexact HS
    iintro ⟨⟨H0, H1, H2, H3, H4, H5⟩, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hk : keptAt m c ⟨t.val - 1, Nat.lt_of_le_of_lt (Nat.sub_le _ _) t.isLt⟩ = keptAt m c t := by
      unfold keptAt; rw [base_odd t h]
    simp only [found_7 m c t h]
    rw [inv_pos m c _ _ (by omega), hk]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (iblk m c 0 t) (iblk m c 1 t) (iblk m c 2 t)
      (iblk m c 3 t) (iblk m c 4 t) (iblk m c 5 t) (rowsAt m c t) (keptAt m c t)
      (fun hc => by have := (cond_iff t).mp hc; omega) Set.univ _)
    unfold ins
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexact H7
    isplitl [HS]; · iexact HS
    iintro ⟨⟨H0, H1, H2, H3, H4, H5⟩, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row_eq (t : Fin cfg0.N) :
    defs₀ (F := F) .tc cfg0.body (cfg0.bodyArgs t (cfg0.slots t)) = bodyAt0 t := by
  unfold defs₀; rw [Defs.onTc_tc]

/-- The body at every point, as the pipeline asks for it. -/
theorem obligation (c : Dev nD) : BodyObligation (data (F := F) m 0 c) (defs₀ (F := F)) Variants.none () Set.univ := fun t => by
  rw [bigSep_W0, bigSep_W0, row_eq]
  refine triple_restated (body_at m c t) rfl .rfl fun _ => ?_
  unfold returned
  rw [← leaves_7]

/-! ## The run -/

theorem enter (c : Dev nD) : Pipeline.ΦA spec0 c ⊢ (data m 0 c).Φ 0 := by
  rw [show (data m 0 c).Φ 0 = inv m c 0 (Nat.zero_le _) from rfl, inv_zero m c 0 _ rfl]

theorem leave (c : Dev nD) : (data m 0 c).Φ (Fin.last cfg0.N) ⊢ Pipeline.ΦA spec0 c := by
  rw [show (data m 0 c).Φ (Fin.last cfg0.N) = inv m c cfg0.N (Nat.le_refl _) from rfl, rest_eq]
  exact inv_any m c _ _

set_option backward.isDefEq.respectTransparency.types false in
/-- The program runs to its end; every array then holds what the proof data say, and every semaphore is at zero. -/
theorem run_quiet : θ_run defs (onTc (τ := τ) (main (F := F))) (s₀ m ρ)
    (fun r => Pipeline.FramePost cfgs (data m) 0 (V m) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enter m) (hout := leave m)

theorem run : θ_run defs (onTc (τ := τ) (main (F := F))) (s₀ m ρ) (Pipeline.FramePost cfgs (data m) 0 (V m)) :=
  (θ_run defs _ _).mono (fun _ h => h.1) (run_quiet m ρ)

/-- The program runs to its end, leaves its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_A m) (run m ρ)) ((θ_run defs _ _).mono (fun _ h => h.2) (run_quiet m ρ))

end Cert.QueryProj

end
-- ==== Proof.QuerySpec.lean ====
/-
  The second norm, its modulation and the query projection at one element.
-/
module

public import Idealize.ShloMosaic.Lib.Pointwise

@[expose] public section

noncomputable section

namespace Cert.QueryProj

open Idealize.ShloMosaic

abbrev SX : Shape := ⟨3, ![2, 8192, 2048]⟩
abbrev SM : Shape := ⟨2, ![8, 12288]⟩
abbrev SN : Shape := ⟨2, ![1, 2048]⟩
abbrev SW : Shape := ⟨3, ![1, 2048, 2048]⟩

/-- The root-mean-square normalisation of a row of 2048 lanes, and its weights. -/
def rms (x : Fin 2048 → EReal) (w : SN.Idx → EReal) (k : Fin 2048) : EReal :=
  x k * Ideal.rsqrt (Ideal.div (∑ y, x y * x y) (Ideal.ofBits .f32 0x45000000#32) + Ideal.ofBits .f32 0x358637BD#32)
    * w (ix2 0 k)

/-- The normalised and modulated row: the scale is the modulation's fifth part, the shift its fourth. -/
def lhs (X : SX.Idx → EReal) (M : SM.Idx → EReal) (N : SN.Idx → EReal) (b : Fin 2) (r : Fin 8192) (k : Fin 2048) : EReal :=
  rms (fun y => X (ix3 b r y)) N k * (Ideal.ofBits .f32 0x3F800000#32 + M (ix2 ⟨b.val, by omega⟩ ⟨8192 + k.val, by omega⟩))
    + M (ix2 ⟨b.val, by omega⟩ ⟨6144 + k.val, by omega⟩)

/-- One element of the projection. -/
def G (X : SX.Idx → EReal) (M : SM.Idx → EReal) (N : SN.Idx → EReal) (W : SW.Idx → EReal) (b : Fin 2) (r : Fin 8192)
    (n : Fin 2048) : EReal :=
  ∑ k : Fin 2048, lhs X M N b r k * W (ix3 0 k n)

end Cert.QueryProj

end
-- ==== Proof.QueryStep.lean ====
/-
  The rows and the products of the query projection at one element.
-/
module

public import proofs.«01_k».proof.Proof.QueryFrame
public import proofs.«01_k».proof.Proof.QuerySpec

@[expose] public section

set_option maxRecDepth 16384

noncomputable section

namespace Cert.QueryProj

open Cert.Kernel6Ideal Cert.Kernel6Ideal.Gen
open Idealize.ShloMosaic Idealize.ShloMosaic.TcCoe Idealize.SL.Sem

variable (x0 : Vec Ideal S1x512x2048 .f32) (x1 : Vec Ideal S1x2048 .f32) (x2 x3 : Vec Ideal S1x2x2048 .f32)
  (x4 : Vec Ideal S2048x1024 .bf16) (x5 : Vec Ideal S1x1024 .f32) (s : Vec Ideal S512x2048 .bf16)

/-- The kernel's choice between the two rows is the first: no row reaches the boundary. -/
theorem mask (a : Fin 16) (r : Fin 512) (u v : EReal) :
    Scalar.select (IntOp.cmpi .sge (IntOp.addi (Scalar.muli (BitVec.ofNat 32 a.val) 512#32) (BitVec.ofNat 32 r.val)) 8192#32) u v
      = v := by
  have e : IntOp.addi (Scalar.muli (BitVec.ofNat 32 a.val) 512#32) (BitVec.ofNat 32 r.val)
      = BitVec.ofNat 32 (a.val * 512 + r.val) := by
    show BitVec.ofNat 32 a.val * BitVec.ofNat 32 512 + BitVec.ofNat 32 r.val = _
    rw [← BitVec.ofNat_mul, ← BitVec.ofNat_add]
  rw [e, show (8192#32 : BitVec 32) = BitVec.ofNat 32 8192 from rfl,
    WordCmp.cmpi_sge_ofNat (by omega) (by norm_num), decide_eq_false (by omega)]
  rfl

/-- A kept row at a lane. -/
theorem kept_apply (a : Fin 16) (r : Fin 512) (k : Fin 2048) :
    kept (BitVec.ofNat 32 a.val) x0 x1 x2 x3 (ix2 r k)
      = rms (fun y => x0 (ix3 0 r y)) x1 k * (Ideal.ofBits .f32 0x3F800000#32 + x3 (ix3 0 0 k)) + x2 (ix3 0 0 k) := by
  pointwise [kept, k0_pay1, k0_pay2, k0_pay5, k0_pay6, k0_pay7, k0_pay8, k0_pay9, k0_pay10, pick, rms]
  rw [mask, mask]

/-- A stored row at a lane. -/
theorem rows_apply (a : Fin 16) (r : Fin 512) (k : Fin 2048) :
    rows (BitVec.ofNat 32 a.val) x0 x1 x2 x3 (ix3 0 r k)
      = rms (fun y => x0 (ix3 0 r y)) x1 k * (Ideal.ofBits .f32 0x3F800000#32 + x3 (ix3 0 0 k)) + x2 (ix3 0 0 k) := by
  pointwise [rows, k0_pay1, k0_pay3, k0_pay5, k0_pay6, k0_pay7, k0_pay8, k0_pay9, k0_pay10, pick, rms]
  rw [mask, mask]

/-- A stored element of the product. -/
theorem prod_apply (r : Fin 512) (n : Fin 1024) :
    k0_pay4 s x4 x5 (ix3 0 r n) = ∑ k : Fin 2048, s (ix2 r k) * x4 (ix2 k n) + x5 (ix2 0 n) := by
  pointwise [k0_pay4]

end Cert.QueryProj

end
-- ==== Proof.QueryBlocks.lean ====
/-
  What the windows of the query projection hold at a grid point, read off the arguments.
-/
module

public import proofs.«01_k».proof.Proof.QueryStep

@[expose] public section

set_option maxRecDepth 16384

noncomputable section

namespace Cert.QueryProj

open Cert.Kernel6Ideal Cert.Kernel6Ideal.Gen
open Idealize.ShloMosaic Idealize.ShloMosaic.TcCoe Idealize.SL.Sem

variable (m : (ℓ : Loc nD τ sig) → Buf (Elt Ideal) ℓ) (c : Dev nD)

/-- The arguments as the run starts with them. -/
abbrev argX : SX.Idx → EReal := m ((c : Thread nD τ).loc main_arg0)
abbrev argM : SM.Idx → EReal := m ((c : Thread nD τ).loc main_arg1)
abbrev argN : SN.Idx → EReal := m ((c : Thread nD τ).loc main_arg2)
abbrev argW : SW.Idx → EReal := m ((c : Thread nD τ).loc main_arg3)

/-- The weights as the region starts with them. -/
theorem V20 (k : Fin 2048) (n : Fin 2048) : V m c main_v20 (ix2 k n) = argW m c (ix3 0 k n) := by
  entry_read
  pointwise

/-- The bias as the region starts with it. -/
theorem V23 (n : Fin 2048) : V m c main_v23 (ix2 0 n) = (0 : EReal) := by
  entry_read
  pointwise

/-- The norm's weights as the region starts with them. -/
theorem V22 (k : Fin 2048) : V m c main_v22 (ix2 0 k) = argN m c (ix2 0 k) := by
  entry_read
  pointwise

/-- The shift's first row as the region starts with it: the batch's own row of the modulation. -/
theorem V12 (b : Fin 2) (k : Fin 2048) :
    V m c main_v12 (ix3 b 0 k) = argM m c (ix2 ⟨b.val, by omega⟩ ⟨6144 + k.val, by omega⟩) := by
  entry_read
  pointwise

/-- The scale's first row as the region starts with it. -/
theorem V18 (b : Fin 2) (k : Fin 2048) :
    V m c main_v18 (ix3 b 0 k) = argM m c (ix2 ⟨b.val, by omega⟩ ⟨8192 + k.val, by omega⟩) := by
  entry_read
  pointwise

/-- The block indices of the windows at a grid point: batch `t / 32`, row tile `t / 2 % 16`, column tile `t % 2`. -/
theorem idx_facts : ∀ t : Fin cfg0.N,
    (win0_0.index t 0 = t.val / 32 ∧ win0_0.index t 1 = t.val / 2 % 16 ∧ win0_0.index t 2 = 0)
    ∧ (win0_1.index t 0 = 0 ∧ win0_1.index t 1 = 0)
    ∧ (win0_2.index t 0 = t.val / 32 ∧ win0_2.index t 1 = 0 ∧ win0_2.index t 2 = 0)
    ∧ (win0_3.index t 0 = t.val / 32 ∧ win0_3.index t 1 = 0 ∧ win0_3.index t 2 = 0)
    ∧ (win0_4.index t 0 = 0 ∧ win0_4.index t 1 = t.val % 2)
    ∧ (win0_5.index t 0 = 0 ∧ win0_5.index t 1 = t.val % 2)
    ∧ (win0_6.index t 0 = t.val / 32 ∧ win0_6.index t 1 = t.val / 2 % 16 ∧ win0_6.index t 2 = t.val % 2)
    ∧ (win0_7.index t 0 = t.val / 32 ∧ win0_7.index t 1 = t.val / 2 % 16 ∧ win0_7.index t 2 = 0)
    ∧ (grid0.coords t 1).val = t.val / 2 % 16 :=
  (by decide +kernel : ∀ t : Fin grid0.N, _)

variable (t : Fin cfg0.N) (b : Fin 2) (i : Fin 16) (j : Fin 2)
  (hb : b.val = t.val / 32) (hi : i.val = t.val / 2 % 16) (hj : j.val = t.val % 2)

include hb hi in
/-- The window of the rows. -/
theorem blk0 (r : Fin 512) (k : Fin 2048) :
    (iblk m c 0 t : S1x512x2048.Idx → EReal) (ix3 0 r k) = argX m c (ix3 b ⟨i.val * 512 + r.val, by omega⟩ k) := by
  obtain ⟨⟨h0, h1, h2⟩, -⟩ := idx_facts t
  refine Eq.trans ?_ (congrFun (V_main_arg0 m c) _)
  unfold iblk
  rw [View.read_apply]
  show V m c main_arg0 _ = _
  congr 1
  funext a
  apply Fin.ext
  match a with
  | ⟨0, _⟩ => show win0_0.index t 0 * 1 + 1 * 0 = b.val; rw [h0]; omega
  | ⟨1, _⟩ => show win0_0.index t 1 * 512 + 1 * r.val = i.val * 512 + r.val; rw [h1]; omega
  | ⟨2, _⟩ => show win0_0.index t 2 * 2048 + 1 * k.val = k.val; rw [h2]; omega

/-- The window of the norm's weights. -/
theorem blk1 (k : Fin 2048) : (iblk m c 1 t : S1x2048.Idx → EReal) (ix2 0 k) = argN m c (ix2 0 k) := by
  obtain ⟨-, ⟨h0, h1⟩, -⟩ := idx_facts t
  rw [← V22 m c]
  unfold iblk
  rw [View.read_apply]
  show V m c main_v22 _ = _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

include hb in
/-- The window of the shift. -/
theorem blk2 (k : Fin 2048) :
    (iblk m c 2 t : S1x2x2048.Idx → EReal) (ix3 0 0 k) = argM m c (ix2 ⟨b.val, by omega⟩ ⟨6144 + k.val, by omega⟩) := by
  obtain ⟨-, -, ⟨h0, h1, h2⟩, -⟩ := idx_facts t
  rw [← V12 m c b k]
  unfold iblk
  rw [View.read_apply]
  show V m c main_v12 _ = _
  congr 1
  funext a
  apply Fin.ext
  match a with
  | ⟨0, _⟩ => show win0_2.index t 0 * 1 + 1 * 0 = b.val; rw [h0]; omega
  | ⟨1, _⟩ => show win0_2.index t 1 * 2 + 1 * 0 = 0; rw [h1]
  | ⟨2, _⟩ => show win0_2.index t 2 * 2048 + 1 * k.val = k.val; rw [h2]; omega

include hb in
/-- The window of the scale. -/
theorem blk3 (k : Fin 2048) :
    (iblk m c 3 t : S1x2x2048.Idx → EReal) (ix3 0 0 k) = argM m c (ix2 ⟨b.val, by omega⟩ ⟨8192 + k.val, by omega⟩) := by
  obtain ⟨-, -, -, ⟨h0, h1, h2⟩, -⟩ := idx_facts t
  rw [← V18 m c b k]
  unfold iblk
  rw [View.read_apply]
  show V m c main_v18 _ = _
  congr 1
  funext a
  apply Fin.ext
  match a with
  | ⟨0, _⟩ => show win0_3.index t 0 * 1 + 1 * 0 = b.val; rw [h0]; omega
  | ⟨1, _⟩ => show win0_3.index t 1 * 2 + 1 * 0 = 0; rw [h1]
  | ⟨2, _⟩ => show win0_3.index t 2 * 2048 + 1 * k.val = k.val; rw [h2]; omega

include hj in
/-- The window of the weights. -/
theorem blk4 (k : Fin 2048) (n : Fin 1024) :
    (iblk m c 4 t : S2048x1024.Idx → EReal) (ix2 k n) = argW m c (ix3 0 k ⟨j.val * 1024 + n.val, by omega⟩) := by
  obtain ⟨-, -, -, -, ⟨h0, h1⟩, -⟩ := idx_facts t
  rw [← V20 m c]
  unfold iblk
  rw [View.read_apply]
  show V m c main_v20 _ = _
  congr 1
  funext a
  apply Fin.ext
  match a with
  | ⟨0, _⟩ => show win0_4.index t 0 * 2048 + 1 * k.val = k.val; rw [h0]; omega
  | ⟨1, _⟩ => show win0_4.index t 1 * 1024 + 1 * n.val = j.val * 1024 + n.val; rw [h1]; omega

/-- The window of the bias. -/
theorem blk5 (n : Fin 1024) : (iblk m c 5 t : S1x1024.Idx → EReal) (ix2 0 n) = (0 : EReal) := by
  obtain ⟨-, -, -, -, -, ⟨h0, h1⟩, -⟩ := idx_facts t
  refine Eq.trans ?_ (V23 m c ⟨t.val % 2 * 1024 + n.val, by omega⟩)
  unfold iblk
  rw [View.read_apply]
  show V m c main_v23 _ = _
  congr 1
  funext a
  apply Fin.ext
  match a with
  | ⟨0, _⟩ => show win0_5.index t 0 * 1 + 1 * 0 = 0; rw [h0]
  | ⟨1, _⟩ => show win0_5.index t 1 * 1024 + 1 * n.val = t.val % 2 * 1024 + n.val; rw [h1]; omega

end Cert.QueryProj

end
-- ==== Proof.QueryRef.lean ====
/-
  The reference of the query projection at one element.
-/
module

public import proofs.«01_k».proof.Proof.QuerySpec
public import proofs.«01_k».proof.Proof.Gen.Reference6Ideal.Read
public import Idealize.ShloMosaic.Lib.Pipeline.Value

@[expose] public section

set_option maxRecDepth 16384

noncomputable section

namespace Cert.QueryProj

open Cert.Reference6Ideal Cert.Reference6Ideal.Read
open Idealize.ShloMosaic Idealize.ShloMosaic.TcCoe

variable (X : SX.Idx → EReal) (M : SM.Idx → EReal) (N : SN.Idx → EReal) (W : SW.Idx → EReal)

/-- The reference's rows before the projection. -/
theorem ref_row (b : Fin 2) (r : Fin 8192) (k : Fin 2048) :
    val_main_v27 (F := Ideal) X M N (ix3 b r k) = lhs X M N b r k := by
  unfold lhs rms
  pointwise [val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v6, val_main_v5, val_main_v1, val_main_v0, val_main_cst,
    val_main_cst_0, val_main_cst_1, val_main_cst_2]

/-- The reference's second result. -/
theorem ref_rows (b : Fin 2) (r : Fin 8192) (k : Fin 2048) :
    val_main_v31 (F := Ideal) X M N (ix3 b r k) = lhs X M N b r k := by
  rw [← ref_row]
  rfl

/-- The reference's first result. -/
theorem ref_proj (b : Fin 2) (r : Fin 8192) (n : Fin 2048) :
    val_main_v30 (F := Ideal) X M N W (ix3 b r n) = G X M N W b r n := by
  unfold G
  simp only [← ref_row]
  unfold val_main_v30 val_main_v29
  generalize val_main_v27 (F := Ideal) X M N = y
  pointwise [val_main_v28]

end Cert.QueryProj

end
-- ==== Proof.QueryProj.lean ====
/-
  The second norm, its modulation and the query projection: what the two result arrays hold, and that the reference holds
  the same.
-/
module

public import proofs.«01_k».proof.Proof.QueryBlocks
public import proofs.«01_k».proof.Proof.QueryRef
public import proofs.«01_k».proof.Proof.Gen.Reference6Ideal.Run
public import proofs.«01_k».proof.Defs
public import Idealize.ShloMosaic.Lib.Claim

@[expose] public section

set_option maxRecDepth 16384

noncomputable section

namespace Cert.QueryProj

open Cert.Kernel6Ideal Cert.Kernel6Ideal.Gen
open Idealize.ShloMosaic Idealize.ShloMosaic.TcCoe Idealize.SL.Sem

variable (m : (ℓ : Loc nD τ sig) → Buf (Elt Ideal) ℓ) (ρ : Dev nD → PrngReg) (c : Dev nD)

theorem base_val (t : Fin cfg0.N) : (base t).val = t.val / 2 * 2 := rfl

/-- A row kept at a point. -/
theorem keptAt_apply (t : Fin cfg0.N) (b : Fin 2) (i : Fin 16) (hb : b.val = t.val / 32) (hi : i.val = t.val / 2 % 16)
    (r : Fin 512) (k : Fin 2048) :
    keptAt m c t (ix2 r k) = lhs (argX m c) (argM m c) (argN m c) b ⟨i.val * 512 + r.val, by omega⟩ k := by
  have hb' : b.val = (base t).val / 32 := by rw [base_val]; omega
  have hi' : i.val = (base t).val / 2 % 16 := by rw [base_val]; omega
  obtain ⟨-, -, -, -, -, -, -, -, hc⟩ := idx_facts (base t)
  unfold keptAt
  rw [hc, ← hi', kept_apply, blk2 m c (base t) b i 0 hb', blk3 m c (base t) b i 0 hb']
  unfold lhs rms
  rw [blk1 m c (base t)]
  simp only [blk0 m c (base t) b i 0 hb' hi']

/-- A row stored at a point. -/
theorem rowsAt_apply (t : Fin cfg0.N) (b : Fin 2) (i : Fin 16) (hb : b.val = t.val / 32) (hi : i.val = t.val / 2 % 16)
    (r : Fin 512) (k : Fin 2048) :
    rowsAt m c t (ix3 0 r k) = lhs (argX m c) (argM m c) (argN m c) b ⟨i.val * 512 + r.val, by omega⟩ k := by
  have hb' : b.val = (base t).val / 32 := by rw [base_val]; omega
  have hi' : i.val = (base t).val / 2 % 16 := by rw [base_val]; omega
  obtain ⟨-, -, -, -, -, -, -, -, hc⟩ := idx_facts (base t)
  unfold rowsAt
  rw [hc, ← hi', rows_apply, blk2 m c (base t) b i 0 hb', blk3 m c (base t) b i 0 hb']
  unfold lhs rms
  rw [blk1 m c (base t)]
  simp only [blk0 m c (base t) b i 0 hb' hi']

/-- An element of the product stored at a point. -/
theorem prodAt_apply (t : Fin cfg0.N) (b : Fin 2) (i : Fin 16) (j : Fin 2) (hb : b.val = t.val / 32)
    (hi : i.val = t.val / 2 % 16) (hj : j.val = t.val % 2) (r : Fin 512) (n : Fin 1024) :
    (k0_pay4 (keptAt m c t) (iblk m c 4 t) (iblk m c 5 t) : S1x512x1024.Idx → EReal) (ix3 0 r n)
      = G (argX m c) (argM m c) (argN m c) (argW m c) b ⟨i.val * 512 + r.val, by omega⟩ ⟨j.val * 1024 + n.val, by omega⟩ := by
  rw [prod_apply, blk5 m c t, add_zero]
  unfold G
  refine Finset.sum_congr rfl fun k _ => ?_
  rw [blk4 m c t b i j hj, keptAt_apply m c t b i hb hi]

/-- The first result array, -/
def result : S2x8192x2048.Idx → EReal := fun i => G (argX m c) (argM m c) (argN m c) (argW m c) (i 0) (i 1) (i 2)

/-- and the second. -/
def normed : S2x8192x2048.Idx → EReal := fun i => lhs (argX m c) (argM m c) (argN m c) (i 0) (i 1) (i 2)

/-- Each grid point writes back its block of the first result array. -/
theorem flushed_6 (t : Fin cfg0.N) :
    (data m 0 c).flushed 6 t = ((cfg0.win 6).blk t).view.read (Elt Ideal) (result m c) := by
  have hN := lt64 t
  obtain ⟨-, -, -, -, -, -, ⟨h0, h1, h2⟩, -⟩ := idx_facts t
  show (cfg0.win 6).cut (grid0.coords t) ((data m 0 c).after 6 t) = _
  rw [left_6]
  funext j
  rw [View.read_apply]
  show (k0_pay4 (keptAt m c t) (iblk m c 4 t) (iblk m c 5 t) : S1x512x1024.Idx → EReal) j
    = result m c (((cfg0.win 6).blk t).view.emb j)
  have hj : ∃ (r : Fin 512) (n : Fin 1024), (j : S1x512x1024.Idx) = ix3 0 r n :=
    ⟨j 1, j 2, by rw [eq_ix3 (j : S1x512x1024.Idx)]; congr 1; exact Subsingleton.elim _ _⟩
  obtain ⟨r, n, rfl⟩ := hj
  have he : ((cfg0.win 6).blk t).view.emb (ix3 0 r n : S1x512x1024.Idx)
      = (ix3 ⟨t.val / 32, by omega⟩ ⟨t.val / 2 % 16 * 512 + r.val, by omega⟩ ⟨t.val % 2 * 1024 + n.val, by omega⟩
          : S2x8192x2048.Idx) := by
    funext a
    apply Fin.ext
    match a with
    | ⟨0, _⟩ => show win0_6.index t 0 * 1 + 1 * 0 = t.val / 32; rw [h0]; omega
    | ⟨1, _⟩ => show win0_6.index t 1 * 512 + 1 * r.val = _; rw [h1]; show _ = t.val / 2 % 16 * 512 + r.val; omega
    | ⟨2, _⟩ => show win0_6.index t 2 * 1024 + 1 * n.val = _; rw [h2]; show _ = t.val % 2 * 1024 + n.val; omega
  rw [he]
  exact prodAt_apply m c t ⟨t.val / 32, by omega⟩ ⟨t.val / 2 % 16, by omega⟩ ⟨t.val % 2, by omega⟩ rfl rfl rfl r n

/-- Each grid point of column tile 1 writes back its block of the second result array. -/
theorem flushed_7 (t : Fin cfg0.N) :
    (data m 0 c).flushed 7 t = ((cfg0.win 7).blk t).view.read (Elt Ideal) (normed m c) := by
  have hN := lt64 t
  obtain ⟨-, -, -, -, -, -, -, ⟨h0, h1, h2⟩, -⟩ := idx_facts t
  show (cfg0.win 7).cut (grid0.coords t) ((data m 0 c).after 7 t) = _
  rw [left_7]
  funext j
  rw [View.read_apply]
  show (rowsAt m c t : S1x512x2048.Idx → EReal) j = normed m c (((cfg0.win 7).blk t).view.emb j)
  have hj : ∃ (r : Fin 512) (k : Fin 2048), (j : S1x512x2048.Idx) = ix3 0 r k :=
    ⟨j 1, j 2, by rw [eq_ix3 (j : S1x512x2048.Idx)]; congr 1; exact Subsingleton.elim _ _⟩
  obtain ⟨r, k, rfl⟩ := hj
  have he : ((cfg0.win 7).blk t).view.emb (ix3 0 r k : S1x512x2048.Idx)
      = (ix3 ⟨t.val / 32, by omega⟩ ⟨t.val / 2 % 16 * 512 + r.val, by omega⟩ k : S2x8192x2048.Idx) := by
    funext a
    apply Fin.ext
    match a with
    | ⟨0, _⟩ => show win0_7.index t 0 * 1 + 1 * 0 = t.val / 32; rw [h0]; omega
    | ⟨1, _⟩ => show win0_7.index t 1 * 512 + 1 * r.val = _; rw [h1]; show _ = t.val / 2 % 16 * 512 + r.val; omega
    | ⟨2, _⟩ => show win0_7.index t 2 * 2048 + 1 * k.val = k.val; rw [h2]; omega
  rw [he]
  exact rowsAt_apply m c t ⟨t.val / 32, by omega⟩ ⟨t.val / 2 % 16, by omega⟩ rfl rfl r k

/-- After the run the first result array is `result`: every index lies in the block of one grid point. -/
theorem final_6 : (data m 0 c).arrAt 6 cfg0.N = result m c :=
  (data m 0 c).arrAt_eq_of_cover 6 (result m c) (fun t _ => flushed_6 m c t) fun (i : S2x8192x2048.Idx) => by
    have h0 : (i 0 : Nat) < 2 := (i 0).isLt
    have h1 : (i 1 : Nat) < 8192 := (i 1).isLt
    have h2 : (i 2 : Nat) < 2048 := (i 2).isLt
    have hN : ((i 0 : Nat) * 16 + (i 1 : Nat) / 512) * 2 + (i 2 : Nat) / 1024 < 64 := by omega
    refine ⟨⟨((i 0 : Nat) * 16 + (i 1 : Nat) / 512) * 2 + (i 2 : Nat) / 1024, hN⟩, flush0_6 _, ?_⟩
    obtain ⟨-, -, -, -, -, -, ⟨e0, e1, e2⟩, -⟩ :=
      idx_facts ⟨((i 0 : Nat) * 16 + (i 1 : Nat) / 512) * 2 + (i 2 : Nat) / 1024, hN⟩
    show i ∈ ((View.whole main_v24_0).slice
      (win0_6.rect ⟨((i 0 : Nat) * 16 + (i 1 : Nat) / 512) * 2 + (i 2 : Nat) / 1024, hN⟩)).set
    rw [View.set_slice_whole, Rect.mem_set_unit]
    intro a
    match a with
    | ⟨0, _⟩ => show win0_6.index _ 0 * 1 ≤ (i 0 : Nat) ∧ (i 0 : Nat) < win0_6.index _ 0 * 1 + 1
                rw [e0]; dsimp only; omega
    | ⟨1, _⟩ => show win0_6.index _ 1 * 512 ≤ (i 1 : Nat) ∧ (i 1 : Nat) < win0_6.index _ 1 * 512 + 512
                rw [e1]; dsimp only; omega
    | ⟨2, _⟩ => show win0_6.index _ 2 * 1024 ≤ (i 2 : Nat) ∧ (i 2 : Nat) < win0_6.index _ 2 * 1024 + 1024
                rw [e2]; dsimp only; omega

/-- After the run the second result array is `normed`. -/
theorem final_7 : (data m 0 c).arrAt 7 cfg0.N = normed m c :=
  (data m 0 c).arrAt_eq_of_cover 7 (normed m c) (fun t _ => flushed_7 m c t) fun (i : S2x8192x2048.Idx) => by
    have h0 : (i 0 : Nat) < 2 := (i 0).isLt
    have h1 : (i 1 : Nat) < 8192 := (i 1).isLt
    have h2 : (i 2 : Nat) < 2048 := (i 2).isLt
    have hN : ((i 0 : Nat) * 16 + (i 1 : Nat) / 512) * 2 + 1 < 64 := by omega
    refine ⟨⟨((i 0 : Nat) * 16 + (i 1 : Nat) / 512) * 2 + 1, hN⟩, (flush0_7 _).mpr (by dsimp only; omega), ?_⟩
    obtain ⟨-, -, -, -, -, -, -, ⟨e0, e1, e2⟩, -⟩ := idx_facts ⟨((i 0 : Nat) * 16 + (i 1 : Nat) / 512) * 2 + 1, hN⟩
    show i ∈ ((View.whole main_v24_1).slice
      (win0_7.rect ⟨((i 0 : Nat) * 16 + (i 1 : Nat) / 512) * 2 + 1, hN⟩)).set
    rw [View.set_slice_whole, Rect.mem_set_unit]
    intro a
    match a with
    | ⟨0, _⟩ => show win0_7.index _ 0 * 1 ≤ (i 0 : Nat) ∧ (i 0 : Nat) < win0_7.index _ 0 * 1 + 1
                rw [e0]; dsimp only; omega
    | ⟨1, _⟩ => show win0_7.index _ 1 * 512 ≤ (i 1 : Nat) ∧ (i 1 : Nat) < win0_7.index _ 1 * 512 + 512
                rw [e1]; dsimp only; omega
    | ⟨2, _⟩ => show win0_7.index _ 2 * 2048 ≤ (i 2 : Nat) ∧ (i 2 : Nat) < win0_7.index _ 2 * 2048 + 2048
                rw [e2]; omega

/-- The program runs to its end with its results at `result` and `normed` and its arguments unchanged. -/
theorem run_results : θ_run defs (onTc (τ := τ) (main (F := Ideal))) ⟨m, fun _ => 0, ρ⟩ (fun r => ∀ c : Dev nD,
      r.2.mem ((c.tc : Thread nD τ).loc main_v24_0) = result m c
      ∧ r.2.mem ((c.tc : Thread nD τ).loc main_v24_1) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 6).trans (final_6 m c), ((h.1 c).1 7).trans (final_7 m c), h.2 c⟩)
    (θ_run_and (run m ρ) (frame_of m ρ (data m) (data_A m) (run m ρ)))

/-- From memories that agree on the arguments, kernel and reference end with the same results. -/
theorem algebraic : Cert.algebraic_Kernel6Ideal_Reference6Ideal (hKernel6Ideal := Cert.Kernel6Ideal.Gen.facts)
    (hReference6Ideal := Cert.Reference6Ideal.Gen.facts) := by
  intro m g m' g' _ hagree
  refine ⟨result m, normed m, run_results m g, ?_⟩
  refine (θ_run _ _ _).mono (fun r h c => ⟨(h c).1.trans ?_, (h c).2.1.trans ?_, (h c).2.2⟩)
    (Cert.Reference6Ideal.Value.run m' g')
  · funext i
    obtain ⟨b, r, n, rfl⟩ : ∃ (b : Fin 2) (r : Fin 8192) (n : Fin 2048), i = ix3 b r n := ⟨i 0, i 1, i 2, eq_ix3 i⟩
    rw [Cert.Reference6Ideal.Read.val_main_v30_eq]
    rw [(hagree c).1, (hagree c).2.1, (hagree c).2.2.1, (hagree c).2.2.2]
    exact ref_proj _ _ _ _ b r n
  · funext i
    obtain ⟨b, r, n, rfl⟩ : ∃ (b : Fin 2) (r : Fin 8192) (n : Fin 2048), i = ix3 b r n := ⟨i 0, i 1, i 2, eq_ix3 i⟩
    rw [Cert.Reference6Ideal.Read.val_main_v31_eq]
    rw [(hagree c).1, (hagree c).2.1, (hagree c).2.2.1]
    exact ref_rows _ _ _ b r n

end Cert.QueryProj

end
-- ==== Proof.ExpertsSpec.lean ====
/-
  The experts at one element: every expert's neuron of a token, weighted by the token's gate map.
-/
module

public import Idealize.ShloMosaic.Lib.Pointwise

@[expose] public section

noncomputable section

namespace Cert.Experts

open Idealize.ShloMosaic

abbrev SH : Shape := ⟨3, ![2, 8192, 2048]⟩
abbrev SG : Shape := ⟨2, ![16384, 16384]⟩
abbrev SU : Shape := ⟨3, ![1, 16384, 2048]⟩

/-- A neuron's answer: half the input times one plus the error function of the input over the root of two. -/
def neuron (x : EReal) : EReal :=
  Ideal.ofBits .f32 0x3F000000#32 * x * (1 + Ideal.erf (x * Ideal.ofBits .f32 0x3F3504F3#32))

/-- What expert `e` adds to lane `n` of token `i`. -/
def term (H : SH.Idx → EReal) (Q : SG.Idx → EReal) (U W : SU.Idx → EReal) (i : Fin 16384) (n : Fin 2048) (e : Fin 16384) :
    EReal :=
  Q (ix2 i e) * neuron (∑ y : Fin 2048, H (ix3 ⟨i.val / 8192, by omega⟩ ⟨i.val % 8192, by omega⟩ y) * U (ix3 0 e y))
    * W (ix3 0 e n)

/-- One element of the experts' output. -/
def G (H : SH.Idx → EReal) (Q : SG.Idx → EReal) (U W : SU.Idx → EReal) (i : Fin 16384) (n : Fin 2048) : EReal :=
  ∑ e : Fin 16384, term H Q U W i n e

end Cert.Experts

end
-- ==== Proof.ExpertsRef.lean ====
/-
  The reference of the experts at one element.
-/
module

public import proofs.«01_k».proof.Proof.ExpertsSpec
public import proofs.«01_k».proof.Proof.Gen.Reference7Ideal.Read
public import Idealize.ShloMosaic.PureOps.Ideal.Laws

@[expose] public section

set_option maxRecDepth 16384

noncomputable section

namespace Cert.Experts

open Cert.Reference7Ideal Cert.Reference7Ideal.Read
open Idealize.ShloMosaic Idealize.ShloMosaic.TcCoe

variable (H : SH.Idx → EReal) (Q : SG.Idx → EReal) (U W : SU.Idx → EReal)

/-- The token's row against the expert's. -/
theorem ref_dot (i e : Fin 16384) :
    val_main_v4 (F := Ideal) H U (ix2 i e)
      = ∑ y : Fin 2048, H (ix3 ⟨i.val / 8192, by omega⟩ ⟨i.val % 8192, by omega⟩ y) * U (ix3 0 e y) := by
  rw [val_main_v4_apply]
  refine Finset.sum_congr rfl fun y _ => ?_
  rw [val_main_v3_apply, val_main_v2_apply]
  refine congrArg₂ (· * ·) ((val_main_v0_apply (F := Ideal) H _).trans (congrArg H ?_)) (congrArg U ?_)
  · funext a
    apply Fin.ext
    match a with
    | ⟨0, _⟩ => show (i.val * 2048 + y.val) / 16777216 = i.val / 8192; omega
    | ⟨1, _⟩ => show (i.val * 2048 + y.val) / 2048 % 8192 = i.val % 8192; omega
    | ⟨2, _⟩ => show (i.val * 2048 + y.val) % 2048 = y.val; omega
  · funext a
    apply Fin.ext
    match a with
    | ⟨0, _⟩ => rfl
    | ⟨1, _⟩ => show (e.val * 2048 + y.val) / 2048 % 16384 = e.val; omega
    | ⟨2, _⟩ => show (e.val * 2048 + y.val) % 2048 = y.val; omega

/-- The neuron's answer. -/
theorem ref_act (i e : Fin 16384) :
    val_main_v11 (F := Ideal) H U (ix2 i e)
      = neuron (∑ y : Fin 2048, H (ix3 ⟨i.val / 8192, by omega⟩ ⟨i.val % 8192, by omega⟩ y) * U (ix3 0 e y)) := by
  rw [← ref_dot]
  unfold neuron
  rw [← Ideal.erfc_neg, ← neg_mul]
  rfl

/-- The reference's result. -/
theorem ref_eq (i : Fin 16384) (n : Fin 2048) :
    val_main_v15 (F := Ideal) H Q U W (ix2 i n) = G H Q U W i n := by
  rw [val_main_v15_apply]
  unfold G term
  refine Finset.sum_congr rfl fun e _ => ?_
  rw [← ref_act, val_main_v14_apply]
  refine congrArg₂ (· * ·) ?_ (congrArg W ?_)
  · have h : lidx_main_v15 (ix2 i n) e = ix2 i e := by
      funext a
      match a with
      | ⟨0, _⟩ => rfl
      | ⟨1, _⟩ => rfl
    rw [h]
    rfl
  · funext a
    apply Fin.ext
    match a with
    | ⟨0, _⟩ => rfl
    | ⟨1, _⟩ => show (e.val * 2048 + n.val) / 2048 % 16384 = e.val; omega
    | ⟨2, _⟩ => show (e.val * 2048 + n.val) % 2048 = n.val; omega

end Cert.Experts

end
-- ==== Proof.Experts.lean ====
/-
  The experts: the output of a row tile gathers the experts tile by tile; after the last tile it holds the sum over all
  experts, as the reference does.
-/
module

public import proofs.«01_k».proof.Proof.ExpertsRef
public import proofs.«01_k».proof.Proof.Gen.Kernel7Ideal.Value
public import Idealize.ShloMosaic.Lib.IdealHost
public import Idealize.ShloMosaic.Lib.Pipeline.ValueKit.Acc
public import Idealize.ShloMosaic.Lib.Claim
public import proofs.«01_k».proof.Defs

@[expose] public section

set_option maxRecDepth 16384

noncomputable section

namespace Cert.Experts

open Cert.Kernel7Ideal Cert.Kernel7Ideal.Gen Cert.Kernel7Ideal.Value
open Idealize.ShloMosaic Idealize.ShloMosaic.TcCoe Idealize.SL.Sem

variable (m : (ℓ : Loc nD τ sig) → Buf (Elt Ideal) ℓ) (c : Dev nD)

/-- The arguments as the run starts with them. -/
abbrev argH : SH.Idx → EReal := m ((c : Thread nD τ).loc main_arg0)
abbrev argQ : SG.Idx → EReal := m ((c : Thread nD τ).loc main_arg1)
abbrev argU : SU.Idx → EReal := m ((c : Thread nD τ).loc main_arg2)
abbrev argW : SU.Idx → EReal := m ((c : Thread nD τ).loc main_arg3)

/-- What a grid point stores: what it found, and the experts of its tile. -/
theorem pay_apply (x0 : Vec Ideal S1024x2048 .bf16) (x1 : Vec Ideal S2048x512 .bf16) (x2 : Vec Ideal S1024x512 .bf16)
    (acc : Vec Ideal S1024x2048 .f32) (x3 : Vec Ideal S512x2048 .bf16) (r : Fin 1024) (n : Fin 2048) :
    k0_pay2 x0 x1 x2 acc x3 (ix2 r n)
      = acc (ix2 r n)
        + ∑ k : Fin 512, x2 (ix2 r k) * neuron (∑ y : Fin 2048, x0 (ix2 r y) * x1 (ix2 y k)) * x3 (ix2 k n) := by
  unfold neuron
  rw [← Ideal.ofBits_one_f32]
  pointwise [k0_pay2]
  rfl

/-- The first point of a run finds zero. -/
theorem start_apply (z : S1024x2048.Idx) : k0_pay1 (F := Ideal) z = (0 : EReal) := by
  pointwise [k0_pay1]

/-- The rows as the region starts with them. -/
theorem V0 (i : Fin 16384) (y : Fin 2048) :
    V m c main_v0 (ix2 i y) = argH m c (ix3 ⟨i.val / 8192, by omega⟩ ⟨i.val % 8192, by omega⟩ y) := by
  entry_read
  pointwise

/-- The experts' first rows, transposed, as the region starts with them. -/
theorem V3 (y : Fin 2048) (e : Fin 16384) : V m c main_v3 (ix2 y e) = argU m c (ix3 0 e y) := by
  entry_read
  pointwise

/-- The experts' second rows as the region starts with them. -/
theorem V5 (e : Fin 16384) (n : Fin 2048) : V m c main_v5 (ix2 e n) = argW m c (ix3 0 e n) := by
  entry_read
  pointwise

/-- The block indices of the windows at a grid point: row tile `t / 32`, expert tile `t % 32`. -/
theorem idx_facts : ∀ t : Fin cfg0.N,
    (win0_0.index t 0 = t.val / 32 ∧ win0_0.index t 1 = 0)
    ∧ (win0_1.index t 0 = 0 ∧ win0_1.index t 1 = t.val % 32)
    ∧ (win0_2.index t 0 = t.val / 32 ∧ win0_2.index t 1 = t.val % 32)
    ∧ (win0_3.index t 0 = t.val % 32 ∧ win0_3.index t 1 = 0) :=
  (by decide +kernel : ∀ t : Fin grid0.N, _)

section Blocks

variable (t : Fin cfg0.N)

/-- The window of the rows. -/
theorem blk0 (r : Fin 1024) (y : Fin 2048) (i : Fin 16384) (hi : i.val = t.val / 32 * 1024 + r.val) :
    (iblk m c 0 t : S1024x2048.Idx → EReal) (ix2 r y)
      = argH m c (ix3 ⟨i.val / 8192, by omega⟩ ⟨i.val % 8192, by omega⟩ y) := by
  obtain ⟨⟨h0, h1⟩, -⟩ := idx_facts t
  refine Eq.trans ?_ (V0 m c i y)
  unfold iblk
  rw [View.read_apply]
  show V m c main_v0 _ = _
  congr 1
  funext a
  apply Fin.ext
  match a with
  | ⟨0, _⟩ => show win0_0.index t 0 * 1024 + 1 * r.val = i.val; rw [h0]; omega
  | ⟨1, _⟩ => show win0_0.index t 1 * 2048 + 1 * y.val = y.val; rw [h1]; omega

/-- The window of the experts' first rows. -/
theorem blk1 (y : Fin 2048) (k : Fin 512) (e : Fin 16384) (he : e.val = t.val % 32 * 512 + k.val) :
    (iblk m c 1 t : S2048x512.Idx → EReal) (ix2 y k) = argU m c (ix3 0 e y) := by
  obtain ⟨-, ⟨h0, h1⟩, -⟩ := idx_facts t
  refine Eq.trans ?_ (V3 m c y e)
  unfold iblk
  rw [View.read_apply]
  show V m c main_v3 _ = _
  congr 1
  funext a
  apply Fin.ext
  match a with
  | ⟨0, _⟩ => show win0_1.index t 0 * 2048 + 1 * y.val = y.val; rw [h0]; omega
  | ⟨1, _⟩ => show win0_1.index t 1 * 512 + 1 * k.val = e.val; rw [h1]; omega

/-- The window of the gate map. -/
theorem blk2 (r : Fin 1024) (k : Fin 512) (i e : Fin 16384) (hi : i.val = t.val / 32 * 1024 + r.val)
    (he : e.val = t.val % 32 * 512 + k.val) :
    (iblk m c 2 t : S1024x512.Idx → EReal) (ix2 r k) = argQ m c (ix2 i e) := by
  obtain ⟨-, -, ⟨h0, h1⟩, -⟩ := idx_facts t
  refine Eq.trans ?_ (congrFun (V_main_arg1 m c) _)
  unfold iblk
  rw [View.read_apply]
  show V m c main_arg1 _ = _
  congr 1
  funext a
  apply Fin.ext
  match a with
  | ⟨0, _⟩ => show win0_2.index t 0 * 1024 + 1 * r.val = i.val; rw [h0]; omega
  | ⟨1, _⟩ => show win0_2.index t 1 * 512 + 1 * k.val = e.val; rw [h1]; omega

/-- The window of the experts' second rows. -/
theorem blk3 (k : Fin 512) (n : Fin 2048) (e : Fin 16384) (he : e.val = t.val % 32 * 512 + k.val) :
    (iblk m c 3 t : S512x2048.Idx → EReal) (ix2 k n) = argW m c (ix3 0 e n) := by
  obtain ⟨-, -, -, ⟨h0, h1⟩⟩ := idx_facts t
  refine Eq.trans ?_ (V5 m c e n)
  unfold iblk
  rw [View.read_apply]
  show V m c main_v5 _ = _
  congr 1
  funext a
  apply Fin.ext
  match a with
  | ⟨0, _⟩ => show win0_3.index t 0 * 512 + 1 * k.val = e.val; rw [h0]; omega
  | ⟨1, _⟩ => show win0_3.index t 1 * 2048 + 1 * n.val = n.val; rw [h1]; omega

end Blocks

/-- What one grid point adds. -/
theorem add_apply (q : Fin 16) (s : Fin 32) (t : Fin cfg0.N) (ht : t.val = 32 * q.val + s.val) (acc : Vec Ideal S1024x2048 .f32)
    (r : Fin 1024) (n : Fin 2048) :
    k0_pay2 (iblk m c 0 t) (iblk m c 1 t) (iblk m c 2 t) acc (iblk m c 3 t) (ix2 r n)
      = acc (ix2 r n) + ∑ k : Fin 512, term (argH m c) (argQ m c) (argU m c) (argW m c)
          ⟨q.val * 1024 + r.val, by omega⟩ n ⟨s.val * 512 + k.val, by omega⟩ := by
  rw [pay_apply]
  unfold term
  congr 1
  refine Finset.sum_congr rfl fun k _ => ?_
  rw [blk2 m c t r k ⟨q.val * 1024 + r.val, by omega⟩ ⟨s.val * 512 + k.val, by omega⟩ (by dsimp only; omega) (by dsimp only; omega),
    blk3 m c t k n ⟨s.val * 512 + k.val, by omega⟩ (by dsimp only; omega)]
  congr 3
  refine Finset.sum_congr rfl fun y _ => ?_
  rw [blk0 m c t r y ⟨q.val * 1024 + r.val, by omega⟩ (by dsimp only; omega),
    blk1 m c t y k ⟨s.val * 512 + k.val, by omega⟩ (by dsimp only; omega)]

/-- After expert tile `j` the output holds the experts of the tiles up to `j`. -/
theorem held (q : Fin 16) (r : Fin 1024) (n : Fin 2048) : ∀ (j : ℕ) (hj : j < 32) (h : 32 * q.val + j < cfg0.N),
    Pipeline.accAt (reset4 m c) (step4 m c) (32 * q.val) j h (ix2 r n)
      = ∑ s : Fin (j + 1), ∑ k : Fin 512, term (argH m c) (argQ m c) (argU m c) (argW m c)
          ⟨q.val * 1024 + r.val, by omega⟩ n ⟨s.val * 512 + k.val, by omega⟩
  | 0, hj, h => by
    refine (add_apply m c q 0 ⟨32 * q.val, h⟩ (by rfl) _ r n).trans ?_
    rw [start_apply, zero_add, Fin.sum_univ_one]
    rfl
  | j + 1, hj, h => by
    refine (add_apply m c q ⟨j + 1, hj⟩ ⟨32 * q.val + (j + 1), h⟩ (by rfl) _ r n).trans ?_
    rw [held q r n j (by omega) (by omega), Fin.sum_univ_castSucc (n := j + 1)]
    rfl

/-- After the run the result array holds `G` of the arguments. -/
theorem result_apply (i : Fin 16384) (n : Fin 2048) :
    (G4 m c : S16384x2048.Idx → EReal) (ix2 i n) = G (argH m c) (argQ m c) (argU m c) (argW m c) i n := by
  have hN : cfg0.N = 512 := N_0
  have hr : run4Of (ix2 i n) = (⟨i.val / 1024, by omega⟩ : Fin 16).val := by
    show 1 * (i.val / 1024 - 0) + 1 * (n.val / 2048 - 0) = i.val / 1024
    omega
  have hl : loc4Of (ix2 i n) = ix2 (⟨i.val % 1024, by omega⟩ : Fin 1024) n := by
    funext a
    apply Fin.ext
    match a with
    | ⟨0, _⟩ => rfl
    | ⟨1, _⟩ => show n.val % 2048 = n.val; omega
  unfold G4
  rw [dif_pos (by rw [hr, hN]; dsimp only; omega), hl]
  have key : ∀ (p : ℕ) (hp : p = (⟨i.val / 1024, by omega⟩ : Fin 16).val) (h : 32 * p + 31 < cfg0.N),
      Pipeline.accAt (reset4 m c) (step4 m c) (32 * p) 31 h (ix2 (⟨i.val % 1024, by omega⟩ : Fin 1024) n)
        = ∑ s : Fin 32, ∑ k : Fin 512, term (argH m c) (argQ m c) (argU m c) (argW m c)
            ⟨i.val / 1024 * 1024 + i.val % 1024, by omega⟩ n ⟨s.val * 512 + k.val, by omega⟩ := by
    intro p hp h
    subst hp
    exact held m c ⟨i.val / 1024, by omega⟩ ⟨i.val % 1024, by omega⟩ n 31 (by omega) h
  refine (key _ hr _).trans ?_
  refine Eq.trans ?_ (Fin.sum_mul_add_fin 32 512 (term (argH m c) (argQ m c) (argU m c) (argW m c) i n) (by norm_num))
  refine Finset.sum_congr rfl fun s _ => Finset.sum_congr rfl fun k _ => ?_
  have hi : (⟨i.val / 1024 * 1024 + i.val % 1024, by omega⟩ : Fin 16384) = i := Fin.ext (by dsimp only; omega)
  rw [hi]

/-- From memories that agree on the arguments, kernel and reference end with the same result. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => G4 m c, run m g, ?_⟩
  refine (θ_run _ _ _).mono (fun r h c => ⟨(h c).1.trans ?_, (h c).2⟩) (Cert.Reference7Ideal.Value.run m' g')
  funext i
  obtain ⟨t, n, rfl⟩ : ∃ (t : Fin 16384) (n : Fin 2048), i = ix2 t n := ⟨i 0, i 1, eq_ix2 i⟩
  rw [Cert.Reference7Ideal.Read.val_main_v15_eq]
  rw [(hagree c).1, (hagree c).2.1, (hagree c).2.2.1, (hagree c).2.2.2]
  exact (ref_eq _ _ _ _ t n).trans (result_apply m c t n).symm

end Cert.Experts

end
-- ==== Proof.AttnPieces.lean ====
/-
  What one grid point leaves in the three running buffers of the attention (the running maximum, the running sum of
  weights and the running weighted sum of values), and what the last point of a run stores as its result.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Attention

open Cert.KernelIdeal Cert.KernelIdeal.Gen
open Idealize.ShloMosaic Idealize.ShloMosaic.TcCoe Idealize.ShloMosaic.Tactic Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

variable (c : Dev nD) (i : grid0.Coords)
  (a4 : Memref sig .tc .vmem S1x512x128 .bf16) (h4 : a4.IsWhole)
  (a5 : Memref sig .tc .vmem S1x768x128 .bf16) (h5 : a5.IsWhole)
  (a6 : Memref sig .tc .vmem S1x768x128 .bf16) (h6 : a6.IsWhole)
  (a7 : Memref sig .tc .vmem S4x64 .f32) (h7 : a7.IsWhole)
  (a8 : Memref sig .tc .vmem S1x128 .f32) (h8 : a8.IsWhole)
  (a9 : Memref sig .tc .vmem S1x512x128 .bf16) (h9 : a9.IsWhole)
  (a10 : Memref sig .tc .vmem S1024x128 .bf16) (h10 : a10.IsWhole)
  (a11 : Memref sig .tc .vmem S1024x1 .f32) (h11 : a11.IsWhole)
  (a12 : Memref sig .tc .vmem S1024x1 .f32) (h12 : a12.IsWhole)
  (a13 : Memref sig .tc .vmem S1024x128 .f32) (h13 : a13.IsWhole)
  (x0 : Vec Ideal S1x512x128 .bf16) (x1 x2 : Vec Ideal S1x768x128 .bf16) (x3 : Vec Ideal S4x64 .f32) (x4 : Vec Ideal S1x128 .f32)
  (q : Vec Ideal S1024x128 .bf16) (mx l : Vec Ideal S1024x1 .f32) (acc : Vec Ideal S1024x128 .f32)

/-- The running maximum after a step over a block of keys. -/
def stepM (q : Vec Ideal S1024x128 .bf16) (k : Vec Ideal S1x768x128 .bf16) (mx : Vec Ideal S1024x1 .f32) :
    Vec Ideal S1024x1 .f32 := k0_pay2 (k0_pay13 q k mx)

/-- The running weighted sum of values after a step over a block of keys and values. -/
def stepAcc (q : Vec Ideal S1024x128 .bf16) (k : Vec Ideal S1x768x128 .bf16) (mx : Vec Ideal S1024x1 .f32)
    (acc : Vec Ideal S1024x128 .f32) (v : Vec Ideal S1x768x128 .bf16) :
    Vec Ideal S1024x128 .f32 := k0_pay1 (k0_pay17 q k mx acc v)

/-- The query rows a run keeps: rows below 512 hold the block with only the first 64 lanes, the others the block with
    only the last 64 lanes. -/
def stackQ (x0 : Vec Ideal S1x512x128 .bf16) : Vec Ideal S1024x128 .bf16 :=
  View.canon [⟨Rect.unit ![512, 0] ![512, 128] inb_S1024x128_S512x128_512_0, k0_pay8 x0⟩,
    ⟨Rect.unit ![0, 0] ![512, 128] inb_S1024x128_S512x128_0_0, k0_pay7 x0⟩]

theorem stackQ_lo (x0 : Vec Ideal S1x512x128 .bf16) (r : Fin 512) (l : Fin 128) :
    stackQ x0 (ix2 ⟨r.val, by omega⟩ l) = k0_pay7 x0 (ix2 r l) := by
  unfold stackQ
  rw [View.canon_cons_of_not_mem]
  · rw [show (ix2 (⟨r.val, by omega⟩ : Fin 1024) l : S1024x128.Idx)
        = (Rect.unit (s := S1024x128) ![0, 0] ![512, 128] inb_S1024x128_S512x128_0_0).emb (ix2 r l) from
      funext fun a => Fin.ext (by
        fin_cases a
        · show _ = 0 + 1 * r.val; simp [ix2]
        · show _ = 0 + 1 * l.val; simp [ix2])]
    exact View.canon_cons_emb ..
  · rw [Rect.mem_set_unit]
    intro h
    have h0 := (h 0).1
    have : (512 : ℕ) ≤ r.val := h0
    omega

theorem stackQ_hi (x0 : Vec Ideal S1x512x128 .bf16) (r : Fin 512) (l : Fin 128) :
    stackQ x0 (ix2 ⟨512 + r.val, by omega⟩ l) = k0_pay8 x0 (ix2 r l) := by
  unfold stackQ
  rw [show (ix2 (⟨512 + r.val, by omega⟩ : Fin 1024) l : S1024x128.Idx)
        = (Rect.unit (s := S1024x128) ![512, 0] ![512, 128] inb_S1024x128_S512x128_512_0).emb (ix2 r l) from
      funext fun a => Fin.ext (by
        fin_cases a
        · show _ = 512 + 1 * r.val; simp [ix2]
        · show _ = 0 + 1 * l.val; simp [ix2])]
  exact View.canon_cons_emb ..

/-- Reading a buffer of 1024 rows and 128 lanes through the rectangle of all of it gives the buffer. -/
theorem idx_whole (X : Vec Ideal S1024x128 .bf16) :
    (fun j => X ((Rect.unit (s := S1024x128) ![0, 0] ![1024, 128] inb_S1024x128_S1024x128_0_0).toLoadRect.idx j)) = X :=
  View.ld_unit_zero (S := S1024x128) hz2 inb_S1024x128_S1024x128_0_0 X

/-- Rows `o .. o+511` of a buffer of 1024 rows and 128 lanes. -/
def half (o : ℕ) (h : o + 512 ≤ 1024) (X : Vec Ideal S1024x128 .f32) : Vec Ideal S512x128 .f32 :=
  fun j => X (ix2 ⟨o + (j 0).val, Nat.lt_of_lt_of_le (Nat.add_lt_add_left (j 0).isLt o) h⟩ (j 1))

/-- Rows `o .. o+511` of a buffer of 1024 rows and one lane. -/
def half1 (o : ℕ) (h : o + 512 ≤ 1024) (X : Vec Ideal S1024x1 .f32) : Vec Ideal S512x1 .f32 :=
  fun j => X (ix2 ⟨o + (j 0).val, Nat.lt_of_lt_of_le (Nat.add_lt_add_left (j 0).isLt o) h⟩ (j 1))

/-- A point in the middle of a run takes one step of the running maximum. -/
theorem B_max (hc0 : ¬cond0_0 i) (hc1 : ¬cond0_1 i) :
    sout0_B_1 c i a4 h4 a5 h5 a6 h6 a7 h7 a8 h8 a9 h9 a10 h10 a11 h11 a12 h12 a13 h13 hc0 hc1
      x0 x1 x2 x3 x4 q mx l acc
      = stepM q x1 mx := by
  unfold sout0_B_1
  rw [View.read_writes_eq_canon _ _ _ (scover0_B_1 c i a4 h4 a5 h5 a6 h6 a7 h7 a8 h8 a9 h9 a10 h10 a11 h11 a12 h12 a13 h13 hc0 hc1
    x0 x1 x2 x3 x4 q mx l acc)]
  unfold kernelRun0_B
  dsimp only
  sl_unfold_words
  rw [View.canon_unit_zero (S := S1024x1) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3]
  rfl

/-- A point in the middle of a run takes one step of the running sum. -/
theorem B_sum (hc0 : ¬cond0_0 i) (hc1 : ¬cond0_1 i) :
    sout0_B_2 c i a4 h4 a5 h5 a6 h6 a7 h7 a8 h8 a9 h9 a10 h10 a11 h11 a12 h12 a13 h13 hc0 hc1
      x0 x1 x2 x3 x4 q mx l acc
      = k0_pay16 q x1 mx l := by
  unfold sout0_B_2
  rw [View.read_writes_eq_canon _ _ _ (scover0_B_2 c i a4 h4 a5 h5 a6 h6 a7 h7 a8 h8 a9 h9 a10 h10 a11 h11 a12 h12 a13 h13 hc0 hc1
    x0 x1 x2 x3 x4 q mx l acc)]
  unfold kernelRun0_B
  dsimp only
  sl_unfold_words
  rw [View.canon_unit_zero (S := S1024x1) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3]

/-- A point in the middle of a run takes one step of the running weighted sum. -/
theorem B_acc (hc0 : ¬cond0_0 i) (hc1 : ¬cond0_1 i) :
    sout0_B_3 c i a4 h4 a5 h5 a6 h6 a7 h7 a8 h8 a9 h9 a10 h10 a11 h11 a12 h12 a13 h13 hc0 hc1
      x0 x1 x2 x3 x4 q mx l acc
      = stepAcc q x1 mx acc x2 := by
  unfold sout0_B_3
  rw [View.read_writes_eq_canon _ _ _ (scover0_B_3 c i a4 h4 a5 h5 a6 h6 a7 h7 a8 h8 a9 h9 a10 h10 a11 h11 a12 h12 a13 h13 hc0 hc1
    x0 x1 x2 x3 x4 q mx l acc)]
  unfold kernelRun0_B
  dsimp only
  sl_unfold_words
  rw [View.canon_unit_zero (S := S1024x128) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3]
  rfl

/-- The last point of a run takes one step of the running maximum. -/
theorem C_max (hc0 : ¬cond0_0 i) (hc1 : cond0_1 i) :
    sout0_C_1 c i a4 h4 a5 h5 a6 h6 a7 h7 a8 h8 a9 h9 a10 h10 a11 h11 a12 h12 a13 h13 hc0 hc1
      x0 x1 x2 x3 x4 q mx l acc
      = stepM q x1 mx := by
  unfold sout0_C_1
  rw [View.read_writes_eq_canon _ _ _ (scover0_C_1 c i a4 h4 a5 h5 a6 h6 a7 h7 a8 h8 a9 h9 a10 h10 a11 h11 a12 h12 a13 h13 hc0 hc1
    x0 x1 x2 x3 x4 q mx l acc)]
  unfold kernelRun0_C
  dsimp only
  sl_unfold_words
  rw [View.canon_unit_zero (S := S1024x1) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3]
  rfl

/-- The last point of a run takes one step of the running sum. -/
theorem C_sum (hc0 : ¬cond0_0 i) (hc1 : cond0_1 i) :
    sout0_C_2 c i a4 h4 a5 h5 a6 h6 a7 h7 a8 h8 a9 h9 a10 h10 a11 h11 a12 h12 a13 h13 hc0 hc1
      x0 x1 x2 x3 x4 q mx l acc
      = k0_pay16 q x1 mx l := by
  unfold sout0_C_2
  rw [View.read_writes_eq_canon _ _ _ (scover0_C_2 c i a4 h4 a5 h5 a6 h6 a7 h7 a8 h8 a9 h9 a10 h10 a11 h11 a12 h12 a13 h13 hc0 hc1
    x0 x1 x2 x3 x4 q mx l acc)]
  unfold kernelRun0_C
  dsimp only
  sl_unfold_words
  rw [View.canon_unit_zero (S := S1024x1) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3]

/-- The last point of a run takes one step of the running weighted sum. -/
theorem C_acc (hc0 : ¬cond0_0 i) (hc1 : cond0_1 i) :
    sout0_C_3 c i a4 h4 a5 h5 a6 h6 a7 h7 a8 h8 a9 h9 a10 h10 a11 h11 a12 h12 a13 h13 hc0 hc1
      x0 x1 x2 x3 x4 q mx l acc
      = stepAcc q x1 mx acc x2 := by
  unfold sout0_C_3
  rw [View.read_writes_eq_canon _ _ _ (scover0_C_3 c i a4 h4 a5 h5 a6 h6 a7 h7 a8 h8 a9 h9 a10 h10 a11 h11 a12 h12 a13 h13 hc0 hc1
    x0 x1 x2 x3 x4 q mx l acc)]
  unfold kernelRun0_C
  dsimp only
  sl_unfold_words
  rw [View.canon_unit_zero (S := S1024x128) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3]
  rfl

/-- The last point of a run stores the two halves of its rows, divided, subtracted and normalised. -/
theorem C_out (hc0 : ¬cond0_0 i) (hc1 : cond0_1 i) :
    out0_C_5 c i a4 h4 a5 h5 a6 h6 a7 h7 a8 h8 a9 h9 a10 h10 a11 h11 a12 h12 a13 h13 hc0 hc1
      x0 x1 x2 x3 x4 q mx l acc
      = k0_pay3 (k0_pay4 x3 (half 0 (by omega) (stepAcc q x1 mx acc x2)) (half1 0 (by omega) (k0_pay16 q x1 mx l))
          (half 512 (by omega) (stepAcc q x1 mx acc x2)) (half1 512 (by omega) (k0_pay16 q x1 mx l)) x4) := by
  unfold out0_C_5
  rw [View.read_writes_eq_canon _ _ _ (cover0_C_5 c i a4 h4 a5 h5 a6 h6 a7 h7 a8 h8 a9 h9 a10 h10 a11 h11 a12 h12 a13 h13 hc0 hc1
    x0 x1 x2 x3 x4 q mx l acc)]
  unfold kernelRun0_C
  dsimp only
  sl_unfold_words
  rw [View.canon_unit_zero (S := S1x512x128) hz3]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3, View.ld_unit_zero (S := S4x64) hz2,
    View.ld_unit_zero (S := S1x128) hz2, View.ld_unit_zero (S := S1x512x128) hz3,
    View.readCov_eq_canon', View.canon_unit_zero (S := S1024x128) hz2, View.canon_unit_zero (S := S1024x1) hz2]
  have ha : ∀ (o : ℕ) (h : o + 512 ≤ 1024) (inb : _) (X : Vec Ideal S1024x128 .f32),
      (fun j => X ((Rect.unit (s := S1024x128) ![o, 0] ![512, 128] inb).toLoadRect.idx j)) = half o h X := by
    intro o h inb X
    funext j
    exact congrArg X (funext fun a => Fin.ext (by fin_cases a <;> simp [half, ix2, LoadRect.idx, Rect.toLoadRect]))
  have hb : ∀ (o : ℕ) (h : o + 512 ≤ 1024) (inb : _) (X : Vec Ideal S1024x1 .f32),
      (fun j => X ((Rect.unit (s := S1024x1) ![o, 0] ![512, 1] inb).toLoadRect.idx j)) = half1 o h X := by
    intro o h inb X
    funext j
    exact congrArg X (funext fun a => Fin.ext (by fin_cases a <;> simp [half1, ix2, LoadRect.idx, Rect.toLoadRect]))
  rw [← ha 0 (by omega) inb_S1024x128_S512x128_0_0, ← ha 512 (by omega) inb_S1024x128_S512x128_512_0,
    ← hb 0 (by omega) inb_S1024x1_S512x1_0_0, ← hb 512 (by omega) inb_S1024x1_S512x1_512_0]
  rfl

/-- The first point of a run keeps its block of queries, each half of the lanes on rows of its own. -/
theorem A_q (hc0 : cond0_0 i) (hc1 : ¬cond0_1 i) :
    sout0_A_0 c i a4 h4 a5 h5 a6 h6 a7 h7 a8 h8 a9 h9 a10 h10 a11 h11 a12 h12 a13 h13 hc0 hc1
      x0 x1 x2 x3 x4
      = stackQ x0 := by
  unfold sout0_A_0
  rw [View.read_writes_eq_canon _ _ _ (scover0_A_0 c i a4 h4 a5 h5 a6 h6 a7 h7 a8 h8 a9 h9 a10 h10 a11 h11 a12 h12 a13 h13 hc0 hc1
    x0 x1 x2 x3 x4)]
  unfold kernelRun0_A
  dsimp only
  sl_unfold_words
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3, View.ld_unit_zero (S := S4x64) hz2,
    View.ld_unit_zero (S := S1x128) hz2, View.ld_unit_zero (S := S1x512x128) hz3,
    View.readCov_unit_zero (S := S1024x128) _ hz2, View.readCov_unit_zero (S := S1024x1) _ hz2, View.readCov_eq_canon', idx_whole]
  rfl

/-- The first point of a run takes one step of the running maximum from the empty maximum. -/
theorem A_max (hc0 : cond0_0 i) (hc1 : ¬cond0_1 i) :
    sout0_A_1 c i a4 h4 a5 h5 a6 h6 a7 h7 a8 h8 a9 h9 a10 h10 a11 h11 a12 h12 a13 h13 hc0 hc1
      x0 x1 x2 x3 x4
      = stepM (stackQ x0) x1 (k0_pay9 (F := Ideal)) := by
  unfold sout0_A_1
  rw [View.read_writes_eq_canon _ _ _ (scover0_A_1 c i a4 h4 a5 h5 a6 h6 a7 h7 a8 h8 a9 h9 a10 h10 a11 h11 a12 h12 a13 h13 hc0 hc1
    x0 x1 x2 x3 x4)]
  unfold kernelRun0_A
  dsimp only
  sl_unfold_words
  rw [View.canon_cons_unit_zero (S := S1024x1) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3, View.ld_unit_zero (S := S4x64) hz2,
    View.ld_unit_zero (S := S1x128) hz2, View.ld_unit_zero (S := S1x512x128) hz3,
    View.readCov_unit_zero (S := S1024x128) _ hz2, View.readCov_unit_zero (S := S1024x1) _ hz2, View.readCov_eq_canon', idx_whole]
  rfl

/-- The first point of a run takes one step of the running sum from nothing. -/
theorem A_sum (hc0 : cond0_0 i) (hc1 : ¬cond0_1 i) :
    sout0_A_2 c i a4 h4 a5 h5 a6 h6 a7 h7 a8 h8 a9 h9 a10 h10 a11 h11 a12 h12 a13 h13 hc0 hc1
      x0 x1 x2 x3 x4
      = k0_pay16 (stackQ x0) x1 (k0_pay9 (F := Ideal)) (k0_pay10 (F := Ideal)) := by
  unfold sout0_A_2
  rw [View.read_writes_eq_canon _ _ _ (scover0_A_2 c i a4 h4 a5 h5 a6 h6 a7 h7 a8 h8 a9 h9 a10 h10 a11 h11 a12 h12 a13 h13 hc0 hc1
    x0 x1 x2 x3 x4)]
  unfold kernelRun0_A
  dsimp only
  sl_unfold_words
  rw [View.canon_cons_unit_zero (S := S1024x1) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3, View.ld_unit_zero (S := S4x64) hz2,
    View.ld_unit_zero (S := S1x128) hz2, View.ld_unit_zero (S := S1x512x128) hz3,
    View.readCov_unit_zero (S := S1024x128) _ hz2, View.readCov_unit_zero (S := S1024x1) _ hz2, View.readCov_eq_canon', idx_whole]
  rfl

/-- The first point of a run takes one step of the running weighted sum from nothing. -/
theorem A_acc (hc0 : cond0_0 i) (hc1 : ¬cond0_1 i) :
    sout0_A_3 c i a4 h4 a5 h5 a6 h6 a7 h7 a8 h8 a9 h9 a10 h10 a11 h11 a12 h12 a13 h13 hc0 hc1
      x0 x1 x2 x3 x4
      = stepAcc (stackQ x0) x1 (k0_pay9 (F := Ideal)) (k0_pay11 (F := Ideal)) x2 := by
  unfold sout0_A_3
  rw [View.read_writes_eq_canon _ _ _ (scover0_A_3 c i a4 h4 a5 h5 a6 h6 a7 h7 a8 h8 a9 h9 a10 h10 a11 h11 a12 h12 a13 h13 hc0 hc1
    x0 x1 x2 x3 x4)]
  unfold kernelRun0_A
  dsimp only
  sl_unfold_words
  rw [View.canon_cons_unit_zero (S := S1024x128) hz2]
  simp only [View.readAt_eq_ld, h4.read_unread, h5.read_unread, h6.read_unread, h7.read_unread, h8.read_unread,
    h10.read_unread, h11.read_unread, h12.read_unread, h13.read_unread,
    View.ld_unit_zero (S := S1024x128) hz2, View.ld_unit_zero (S := S1024x1) hz2, View.ld_unit_zero (S := S1x768x128) hz3, View.ld_unit_zero (S := S4x64) hz2,
    View.ld_unit_zero (S := S1x128) hz2, View.ld_unit_zero (S := S1x512x128) hz3,
    View.readCov_unit_zero (S := S1024x128) _ hz2, View.readCov_unit_zero (S := S1024x1) _ hz2, View.readCov_eq_canon', idx_whole]
  rfl

end Cert.Attention

end
-- ==== Proof.AttnMath.lean ====
/-
  A softmax average taken block by block: a running maximum, a running sum of weights and a running weighted sum,
  rescaled whenever the maximum moves, give the average over all keys, whatever the maximum was.
-/
module

public import Idealize.ShloMosaic.Lib.Pointwise

@[expose] public section

noncomputable section

namespace Cert.Attention

open Idealize.ShloMosaic

/-- The word of minus infinity is the least extended real. -/
theorem ninf : Ideal.ofBits .f32 4286578688#32 = ⊥ := by simp [Ideal.ofBits, Ideal.ieee]

/-- The word added to the difference of exponentials is a real number. -/
theorem lam_word : ∃ x : ℝ, Ideal.ofBits .f32 1045220557#32 = (x : EReal) := by
  refine ⟨(13421773 : ℝ) * ((2 : ℝ) ^ 26)⁻¹, ?_⟩
  simp [Ideal.ofBits, Ideal.ieee]

/-- A sum of real numbers is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The largest of finitely many real numbers, at least one, is a real number. -/
theorem fold_real {n : ℕ} (s : Fin n → ℝ) (h : 0 < n) :
    ∃ μ : ℝ, Finset.univ.fold max (⊥ : EReal) (fun x => (s x : EReal)) = (μ : EReal) := by
  classical
  have key : ∀ t : Finset (Fin n), t.Nonempty → ∃ μ : ℝ, t.fold max (⊥ : EReal) (fun x => (s x : EReal)) = (μ : EReal) := by
    intro t ht
    induction ht using Finset.Nonempty.cons_induction with
    | singleton a => exact ⟨s a, by simp⟩
    | cons a t ha ht ih =>
      obtain ⟨μ, hμ⟩ := ih
      exact ⟨max (s a) μ, by rw [Finset.fold_cons, hμ]; exact (EReal.coe_strictMono.monotone.map_max).symm⟩
  exact key _ ⟨⟨0, h⟩, Finset.mem_univ _⟩

/-- What the three running values hold after the first `n` keys of one row, for a row of real scores `σ` and real
    values `ν`: some real shift, the sum of the weights under that shift, and the weighted sums of the values. -/
def IsRun (σ : ℕ → ℝ) (ν : ℕ → Fin 128 → ℝ) (n : ℕ) (m l : EReal) (acc : Fin 128 → EReal) : Prop :=
  ∃ μ : ℝ, m = (μ : EReal) ∧ l = ((∑ k ∈ Finset.range n, Real.exp (σ k - μ) : ℝ) : EReal)
    ∧ ∀ d, acc d = ((∑ k ∈ Finset.range n, Real.exp (σ k - μ) * ν k d : ℝ) : EReal)

variable {σ : ℕ → ℝ} {ν : ℕ → Fin 128 → ℝ} {n : ℕ} {m l : EReal} {acc : Fin 128 → EReal}
  {B : ℕ} {s : Fin B → EReal} {v : Fin B → Fin 128 → EReal}

/-- The new shift and the weights of a block of keys under it. -/
theorem block (hs : ∀ x, s x = (σ (n + x.val) : EReal)) (hv : ∀ x d, v x d = (ν (n + x.val) d : EReal)) (μ : ℝ) :
    (∑ x, Ideal.exp (s x - (μ : EReal)) = ((∑ x ∈ Finset.range B, Real.exp (σ (n + x) - μ) : ℝ) : EReal))
    ∧ ∀ d, ∑ x, Ideal.exp (s x - (μ : EReal)) * v x d
        = ((∑ x ∈ Finset.range B, Real.exp (σ (n + x) - μ) * ν (n + x) d : ℝ) : EReal) := by
  constructor
  · rw [← Fin.sum_univ_eq_sum_range (fun x => Real.exp (σ (n + x) - μ)) B, ← coe_sum]
    refine Finset.sum_congr rfl fun x _ => ?_
    rw [hs x, ← EReal.coe_sub, Ideal.exp_coe]
  · intro d
    rw [← Fin.sum_univ_eq_sum_range (fun x => Real.exp (σ (n + x) - μ) * ν (n + x) d) B, ← coe_sum]
    refine Finset.sum_congr rfl fun x _ => ?_
    rw [hs x, hv x d, ← EReal.coe_sub, Ideal.exp_coe, EReal.coe_mul]

/-- The first block of keys, from the empty maximum and empty sums. -/
theorem start (hB : 0 < B) (hs : ∀ x, s x = (σ x.val : EReal)) (hv : ∀ x d, v x d = (ν x.val d : EReal)) (m' : EReal)
    (hm : m' = max ⊥ (Finset.univ.fold max ⊥ s)) :
    IsRun σ ν B m' (Ideal.exp (⊥ - m') * 0 + ∑ x, Ideal.exp (s x - m'))
      (fun d => Ideal.exp (⊥ - m') * 0 + ∑ x, Ideal.exp (s x - m') * v x d) := by
  obtain ⟨μ, hμ⟩ := fold_real (fun x : Fin B => σ x.val) hB
  have hs' : s = fun x => (σ x.val : EReal) := funext hs
  rw [hs', hμ, max_eq_right bot_le] at hm
  subst hm
  obtain ⟨h1, h2⟩ := block (n := 0) (σ := σ) (ν := ν) (s := s) (v := v) (fun x => by rw [hs x, Nat.zero_add])
    (fun x d => by rw [hv x d, Nat.zero_add]) μ
  refine ⟨μ, rfl, ?_, fun d => ?_⟩
  · rw [h1, mul_zero, zero_add]; simp only [Nat.zero_add]
  · dsimp only; rw [h2 d, mul_zero, zero_add]; simp only [Nat.zero_add]

/-- One more block of keys. -/
theorem step (hB : 0 < B) (h : IsRun σ ν n m l acc) (hs : ∀ x, s x = (σ (n + x.val) : EReal))
    (hv : ∀ x d, v x d = (ν (n + x.val) d : EReal)) (m' : EReal) (hm : m' = max m (Finset.univ.fold max ⊥ s)) :
    IsRun σ ν (n + B) m' (Ideal.exp (m - m') * l + ∑ x, Ideal.exp (s x - m'))
      (fun d => Ideal.exp (m - m') * acc d + ∑ x, Ideal.exp (s x - m') * v x d) := by
  obtain ⟨μ₀, rfl, rfl, hacc⟩ := h
  obtain ⟨μ₁, hμ⟩ := fold_real (fun x : Fin B => σ (n + x.val)) hB
  have hs' : s = fun x => (σ (n + x.val) : EReal) := funext hs
  obtain ⟨μ, hμ'⟩ : ∃ μ : ℝ, max (μ₀ : EReal) (μ₁ : EReal) = (μ : EReal) := ⟨max μ₀ μ₁, (EReal.coe_strictMono.monotone.map_max).symm⟩
  rw [hs', hμ, hμ'] at hm
  subst hm
  obtain ⟨h1, h2⟩ := block hs hv μ
  have hre : ∀ k, Real.exp (μ₀ - μ) * Real.exp (σ k - μ₀) = Real.exp (σ k - μ) := fun k => by
    rw [← Real.exp_add]; congr 1; ring
  refine ⟨μ, rfl, ?_, fun d => ?_⟩
  · rw [h1, ← EReal.coe_sub, Ideal.exp_coe, ← EReal.coe_mul, ← EReal.coe_add, Finset.mul_sum, Finset.sum_range_add]
    simp only [hre]
  · dsimp only; rw [h2 d, hacc d, ← EReal.coe_sub, Ideal.exp_coe, ← EReal.coe_mul, ← EReal.coe_add, Finset.mul_sum,
      Finset.sum_range_add]
    simp only [← mul_assoc, hre]

/-- The softmax average of the values of the first `n` keys. -/
def avg (σ : ℕ → ℝ) (ν : ℕ → Fin 128 → ℝ) (n : ℕ) (d : Fin 128) : ℝ :=
  (∑ k ∈ Finset.range n, Real.exp (σ k) * ν k d) / ∑ k ∈ Finset.range n, Real.exp (σ k)

theorem avg_shift (hn : 0 < n) (μ : ℝ) (d : Fin 128) :
    (∑ k ∈ Finset.range n, Real.exp (σ k - μ) * ν k d) / (∑ k ∈ Finset.range n, Real.exp (σ k - μ)) = avg σ ν n d := by
  have h : ∀ k, Real.exp (σ k - μ) = Real.exp (-μ) * Real.exp (σ k) := fun k => by
    rw [← Real.exp_add]; congr 1; ring
  simp only [h, mul_assoc, ← Finset.mul_sum]
  exact mul_div_mul_left _ _ (Real.exp_ne_zero _)

theorem sum_exp_pos (hn : 0 < n) (μ : ℝ) : 0 < ∑ k ∈ Finset.range n, Real.exp (σ k - μ) :=
  Finset.sum_pos (fun _ _ => Real.exp_pos _) ⟨0, Finset.mem_range.2 hn⟩

theorem div_real (x y : ℝ) (h : y ≠ 0) : Ideal.div (x : EReal) (y : EReal) = ((x / y : ℝ) : EReal) := by
  rw [Ideal.div_coe h, ← EReal.coe_mul]; congr 1; field_simp

/-- The running weighted sum over the running sum is the softmax average. -/
theorem ratio (h : IsRun σ ν n m l acc) (hn : 0 < n) (d : Fin 128) : Ideal.div (acc d) l = (avg σ ν n d : EReal) := by
  obtain ⟨μ, -, rfl, hacc⟩ := h
  rw [hacc d, div_real _ _ (sum_exp_pos hn μ).ne', avg_shift hn]

/-- The weights of two softmaxes subtracted first and the values averaged after: the difference of the averages. -/
theorem plain {N : ℕ} (hN : 0 < N) (σ₀ σ₁ : ℕ → ℝ) (ν : ℕ → Fin 128 → ℝ) (Λ : ℝ) (s₀ s₁ : Fin N → EReal)
    (v : Fin N → EReal) (d : Fin 128) (h₀ : ∀ k, s₀ k = (σ₀ k.val : EReal)) (h₁ : ∀ k, s₁ k = (σ₁ k.val : EReal))
    (hv : ∀ k, v k = (ν k.val d : EReal)) :
    ∑ k, (Ideal.div (Ideal.exp (s₀ k - max ⊥ (Finset.univ.fold max ⊥ s₀)))
            (∑ k', Ideal.exp (s₀ k' - max ⊥ (Finset.univ.fold max ⊥ s₀)))
          - (Λ : EReal) * Ideal.div (Ideal.exp (s₁ k - max ⊥ (Finset.univ.fold max ⊥ s₁)))
              (∑ k', Ideal.exp (s₁ k' - max ⊥ (Finset.univ.fold max ⊥ s₁)))) * v k
      = ((avg σ₀ ν N d - Λ * avg σ₁ ν N d : ℝ) : EReal) := by
  have red : ∀ (σ : ℕ → ℝ) (s : Fin N → EReal), (∀ k, s k = (σ k.val : EReal)) →
      ∃ μ : ℝ, ∀ k, Ideal.div (Ideal.exp (s k - max ⊥ (Finset.univ.fold max ⊥ s)))
            (∑ k', Ideal.exp (s k' - max ⊥ (Finset.univ.fold max ⊥ s)))
        = ((Real.exp (σ k.val - μ) / ∑ k' ∈ Finset.range N, Real.exp (σ k' - μ) : ℝ) : EReal) := by
    intro σ s hs
    obtain ⟨μ, hμ⟩ := fold_real (fun x : Fin N => σ x.val) hN
    have hs' : s = fun x => (σ x.val : EReal) := funext hs
    refine ⟨μ, fun k => ?_⟩
    rw [hs', hμ, max_eq_right bot_le, ← EReal.coe_sub, Ideal.exp_coe,
      ← div_real _ _ (sum_exp_pos hN μ).ne', ← Fin.sum_univ_eq_sum_range (fun x => Real.exp (σ x - μ)) N, ← coe_sum]
    refine congrArg _ (Finset.sum_congr rfl fun x _ => ?_)
    rw [← EReal.coe_sub, Ideal.exp_coe]
  obtain ⟨μ₀, e₀⟩ := red σ₀ s₀ h₀
  obtain ⟨μ₁, e₁⟩ := red σ₁ s₁ h₁
  simp only [e₀, e₁, hv, ← EReal.coe_mul, ← EReal.coe_sub]
  rw [coe_sum, Fin.sum_univ_eq_sum_range (fun k => (Real.exp (σ₀ k - μ₀) / ∑ k' ∈ Finset.range N, Real.exp (σ₀ k' - μ₀)
      - Λ * (Real.exp (σ₁ k - μ₁) / ∑ k' ∈ Finset.range N, Real.exp (σ₁ k' - μ₁))) * ν k d) N]
  congr 1
  rw [← avg_shift (σ := σ₀) hN μ₀ d, ← avg_shift (σ := σ₁) hN μ₁ d, Finset.sum_div, Finset.sum_div, Finset.mul_sum,
    ← Finset.sum_sub_distrib]
  refine Finset.sum_congr rfl fun k _ => ?_
  ring

end Cert.Attention

end
-- ==== Proof.AttnSpec.lean ====
/-
  The attention at one element: the scores and the values of one head as real numbers, the coefficient of the second
  softmax, and the normalised difference of the two averages.
-/
module

public import proofs.«01_k».proof.Proof.AttnMath

@[expose] public section

noncomputable section

namespace Cert.Attention

open Idealize.ShloMosaic

/-- The rotated queries and keys, the in-projection's output, the four vectors of the coefficient, the norm's weights. -/
abbrev SQ : Shape := ⟨3, ![2, 8448, 2048]⟩
abbrev SP : Shape := ⟨3, ![2, 8448, 11264]⟩
abbrev SL : Shape := ⟨3, ![1, 4, 64]⟩
abbrev SW : Shape := ⟨2, ![1, 128]⟩

/-- The score of half `e` of head `h` between query `r` and key `k`, as the extended real the programs compute. -/
def score (A : SQ.Idx → EReal) (b : Fin 2) (h : Fin 8) (e : Fin 2) (r : Fin 8192) (k : Fin 8448) : EReal :=
  ∑ x : Fin 64, A (ix3 b ⟨r.val, by omega⟩ ⟨h.val * 128 + e.val * 64 + x.val, by omega⟩)
    * A (ix3 b k ⟨1024 + (h.val * 128 + e.val * 64 + x.val), by omega⟩)

/-- The value of key `k` at lane `d` of head `h`. -/
def value (P : SP.Idx → EReal) (b : Fin 2) (h : Fin 8) (k : Fin 8448) (d : Fin 128) : EReal :=
  P (ix3 b k ⟨6144 + (h.val * 128 + d.val), by omega⟩)

/-- The coefficient of the second softmax. -/
def lam (L : SL.Idx → EReal) : EReal :=
  Ideal.exp (∑ x : Fin 64, L (ix3 0 0 x) * L (ix3 0 1 x)) - Ideal.exp (∑ x : Fin 64, L (ix3 0 2 x) * L (ix3 0 3 x))
    + Ideal.ofBits .f32 1045220557#32

/-- The root-mean-square normalisation over the 128 lanes of a head, its weights, and the final scaling. -/
def norm (o : Fin 128 → EReal) (w : SW.Idx → EReal) (d : Fin 128) : EReal :=
  o d * Ideal.rsqrt (Ideal.div (∑ x, o x * o x) (Ideal.ofBits .f32 1124073472#32) + Ideal.ofBits .f32 897988541#32)
    * w (ix2 0 d) * Ideal.ofBits .f32 1061997773#32

/-- The scores of a query as real numbers, key by key (zero past the last key). -/
def sgm (A : SQ.Idx → EReal) (b : Fin 2) (h : Fin 8) (e : Fin 2) (r : Fin 8192) (k : ℕ) : ℝ :=
  if hk : k < 8448 then (score A b h e r ⟨k, hk⟩).toReal else 0

/-- The values of a head as real numbers, key by key (zero past the last key). -/
def nu (P : SP.Idx → EReal) (b : Fin 2) (h : Fin 8) (k : ℕ) (d : Fin 128) : ℝ :=
  if hk : k < 8448 then (value P b h ⟨k, hk⟩ d).toReal else 0

/-- The difference of the two softmax averages at lane `d` of head `h` for query `r`. -/
def diff (A : SQ.Idx → EReal) (P : SP.Idx → EReal) (L : SL.Idx → EReal) (b : Fin 2) (h : Fin 8) (r : Fin 8192)
    (d : Fin 128) : EReal :=
  ((avg (sgm A b h 0 r) (nu P b h) 8448 d - (lam L).toReal * avg (sgm A b h 1 r) (nu P b h) 8448 d : ℝ) : EReal)

/-- Element `n` of the attention for query `r`: head `n / 128`, lane `n % 128`. -/
def G (A : SQ.Idx → EReal) (P : SP.Idx → EReal) (L : SL.Idx → EReal) (w : SW.Idx → EReal) (b : Fin 2) (r : Fin 8192)
    (n : Fin 1024) : EReal :=
  norm (diff A P L b ⟨n.val / 128, by omega⟩ r) w ⟨n.val % 128, by omega⟩

/-- Every element the attention reads except the norm's weights is a real number. -/
structure Finite (A : SQ.Idx → EReal) (P : SP.Idx → EReal) (L : SL.Idx → EReal) : Prop where
  hA : ∀ i, ∃ x : ℝ, A i = (x : EReal)
  hP : ∀ (b : Fin 2) (k : Fin 8448) (n : Fin 1024), ∃ x : ℝ, P (ix3 b k ⟨6144 + n.val, by omega⟩) = (x : EReal)
  hL : ∀ i, ∃ x : ℝ, L i = (x : EReal)

/-- A sum of products of real numbers is a real number. -/
theorem dot_real {n : ℕ} (f g : Fin n → EReal) (hf : ∀ x, ∃ y : ℝ, f x = (y : EReal)) (hg : ∀ x, ∃ y : ℝ, g x = (y : EReal)) :
    ∃ z : ℝ, ∑ x, f x * g x = (z : EReal) := by
  choose f' hf using hf
  choose g' hg using hg
  refine ⟨∑ x, f' x * g' x, ?_⟩
  rw [← coe_sum]
  exact Finset.sum_congr rfl fun x _ => by rw [hf, hg, EReal.coe_mul]

variable {A : SQ.Idx → EReal} {P : SP.Idx → EReal} {L : SL.Idx → EReal} (fin : Finite A P L)

include fin in
theorem score_real (b : Fin 2) (h : Fin 8) (e : Fin 2) (r : Fin 8192) (k : Fin 8448) :
    score A b h e r k = (sgm A b h e r k.val : EReal) := by
  obtain ⟨z, hz⟩ : ∃ z : ℝ, score A b h e r k = (z : EReal) := dot_real _ _ (fun _ => fin.hA _) (fun _ => fin.hA _)
  unfold sgm
  rw [dif_pos k.isLt, hz, EReal.toReal_coe]

include fin in
theorem value_real (b : Fin 2) (h : Fin 8) (k : Fin 8448) (d : Fin 128) :
    value P b h k d = (nu P b h k.val d : EReal) := by
  obtain ⟨z, hz⟩ : ∃ z : ℝ, value P b h k d = (z : EReal) := fin.hP b k ⟨h.val * 128 + d.val, by omega⟩
  unfold nu
  rw [dif_pos k.isLt, hz, EReal.toReal_coe]

include fin in
theorem lam_real : lam L = ((lam L).toReal : EReal) := by
  obtain ⟨z, hz⟩ : ∃ z : ℝ, lam L = (z : EReal) := by
    obtain ⟨x, hx⟩ := dot_real (fun x : Fin 64 => L (ix3 0 0 x)) (fun x => L (ix3 0 1 x)) (fun _ => fin.hL _) (fun _ => fin.hL _)
    obtain ⟨y, hy⟩ := dot_real (fun x : Fin 64 => L (ix3 0 2 x)) (fun x => L (ix3 0 3 x)) (fun _ => fin.hL _) (fun _ => fin.hL _)
    obtain ⟨w, hw⟩ := lam_word
    refine ⟨Real.exp x - Real.exp y + w, ?_⟩
    unfold lam
    rw [hx, hy, hw, Ideal.exp_coe, Ideal.exp_coe, ← EReal.coe_sub, ← EReal.coe_add]
  rw [hz, EReal.toReal_coe]

end Cert.Attention

end
-- ==== Proof.AttnStep.lean ====
/-
  One step of the attention over a block of keys and values, row by row: the scores of a row against the keys of the
  block, and what the three running buffers hold after the step.
-/
module

public import proofs.«01_k».proof.Proof.AttnPieces
public import proofs.«01_k».proof.Proof.AttnSpec

@[expose] public section

set_option maxRecDepth 16384

noncomputable section

namespace Cert.Attention

open Cert.KernelIdeal Cert.KernelIdeal.Gen
open Idealize.ShloMosaic Idealize.ShloMosaic.TcCoe Idealize.ShloMosaic.Tactic Idealize.SL.Sem

/-- The row of the running buffers that belongs to half `e` of query `r` of the block. -/
def row (e : Fin 2) (r : Fin 512) : Fin 1024 := ⟨e.val * 512 + r.val, by omega⟩

variable (q : Vec Ideal S1024x128 .bf16) (k v : Vec Ideal S1x768x128 .bf16) (mx l : Vec Ideal S1024x1 .f32)
  (acc : Vec Ideal S1024x128 .f32)

theorem dot_apply (j : Fin 1024) (x : Fin 768) :
    k0_pay12 q k (ix2 j x) = ∑ y : Fin 128, q (ix2 j y) * k (ix3 0 x y) := by
  pointwise [k0_pay12]

theorem max_apply (j : Fin 1024) :
    k0_pay13 q k mx (ix2 j 0) = max (mx (ix2 j 0)) (Finset.univ.fold max ⊥ fun x => k0_pay12 q k (ix2 j x)) := by
  rw [← ninf]
  generalize hS : k0_pay12 q k = S
  have : k0_pay13 q k mx = k0_pay13 q k mx := rfl
  unfold k0_pay13
  rw [hS]
  pointwise

theorem stepM_apply (j : Fin 1024) : stepM q k mx (ix2 j 0) = k0_pay13 q k mx (ix2 j 0) := by
  unfold stepM
  pointwise [k0_pay2]

theorem sum_apply (j : Fin 1024) :
    k0_pay16 q k mx l (ix2 j 0) = Ideal.exp (mx (ix2 j 0) - k0_pay13 q k mx (ix2 j 0)) * l (ix2 j 0)
      + ∑ x, Ideal.exp (k0_pay12 q k (ix2 j x) - k0_pay13 q k mx (ix2 j 0)) := by
  pointwise [k0_pay16, k0_pay14, k0_pay15]

theorem acc_apply (j : Fin 1024) (d : Fin 128) :
    stepAcc q k mx acc v (ix2 j d) = Ideal.exp (mx (ix2 j 0) - k0_pay13 q k mx (ix2 j 0)) * acc (ix2 j d)
      + ∑ x, Ideal.exp (k0_pay12 q k (ix2 j x) - k0_pay13 q k mx (ix2 j 0)) * v (ix3 0 x d) := by
  unfold stepAcc
  pointwise [k0_pay1, k0_pay17, k0_pay14, k0_pay15]

/-- A step over a block of keys takes the running buffers of a row to those of 768 keys more. -/
theorem step_run (j : Fin 1024) (σ : ℕ → ℝ) (ν : ℕ → Fin 128 → ℝ) (n : ℕ)
    (hs : ∀ x : Fin 768, k0_pay12 q k (ix2 j x) = (σ (n + x.val) : EReal))
    (hv : ∀ (x : Fin 768) (d : Fin 128), v (ix3 0 x d) = (ν (n + x.val) d : EReal))
    (h : IsRun σ ν n (mx (ix2 j 0)) (l (ix2 j 0)) (fun d => acc (ix2 j d))) :
    IsRun σ ν (n + 768) (stepM q k mx (ix2 j 0)) (k0_pay16 q k mx l (ix2 j 0)) (fun d => stepAcc q k mx acc v (ix2 j d)) := by
  have p := step (B := 768) (by norm_num) h hs (v := fun x d => v (ix3 0 x d)) hv _ (max_apply q k mx j)
  rw [stepM_apply, sum_apply, funext fun d => acc_apply q k v mx acc j d]
  exact p

/-- The first step of a run leaves the running buffers of the first 768 keys. -/
theorem start_run (j : Fin 1024) (σ : ℕ → ℝ) (ν : ℕ → Fin 128 → ℝ)
    (hs : ∀ x : Fin 768, k0_pay12 q k (ix2 j x) = (σ x.val : EReal))
    (hv : ∀ (x : Fin 768) (d : Fin 128), v (ix3 0 x d) = (ν x.val d : EReal)) :
    IsRun σ ν 768 (stepM q k (k0_pay9 (F := Ideal)) (ix2 j 0))
      (k0_pay16 q k (k0_pay9 (F := Ideal)) (k0_pay10 (F := Ideal)) (ix2 j 0))
      (fun d => stepAcc q k (k0_pay9 (F := Ideal)) (k0_pay11 (F := Ideal)) v (ix2 j d)) := by
  have e9 : (k0_pay9 (F := Ideal)) (ix2 j 0) = (⊥ : EReal) := by rw [← ninf]; pointwise [k0_pay9]
  have e10 : (k0_pay10 (F := Ideal)) (ix2 j 0) = (0 : EReal) := by pointwise [k0_pay10]
  have e11 : ∀ d, (k0_pay11 (F := Ideal)) (ix2 j d) = (0 : EReal) := fun d => by pointwise [k0_pay11]
  have hm := max_apply q k (k0_pay9 (F := Ideal)) j
  rw [e9] at hm
  have p := start (B := 768) (by norm_num) hs (v := fun x d => v (ix3 0 x d)) hv _ hm
  rw [stepM_apply, sum_apply, funext fun d => acc_apply q k v _ _ j d, e9, e10]
  simp only [e11]
  exact p

theorem lane_lo : ∀ y : Fin 64, IntOp.cmpi .slt (BitVec.ofNat 32 (Fin.castAdd 64 y).val) 64#32 = 1#1 := by decide
theorem lane_lo' : ∀ y : Fin 64, IntOp.cmpi .slt (BitVec.ofNat 32 (Fin.natAdd 64 y).val) 64#32 = 0#1 := by decide
theorem lane_hi : ∀ y : Fin 64, IntOp.cmpi .sge (BitVec.ofNat 32 (Fin.castAdd 64 y).val) 64#32 = 0#1 := by decide
theorem lane_hi' : ∀ y : Fin 64, IntOp.cmpi .sge (BitVec.ofNat 32 (Fin.natAdd 64 y).val) 64#32 = 1#1 := by decide

theorem pay7_apply (X : Vec Ideal S1x512x128 .bf16) (r : Fin 512) (y : Fin 128) :
    k0_pay7 X (ix2 r y) = Scalar.select (IntOp.cmpi .slt (BitVec.ofNat 32 y.val) 64#32) (X (ix3 0 r y)) (0 : EReal) := by
  pointwise [k0_pay7, k0_pay5, k0_pay6]

theorem pay8_apply (X : Vec Ideal S1x512x128 .bf16) (r : Fin 512) (y : Fin 128) :
    k0_pay8 X (ix2 r y) = Scalar.select (IntOp.cmpi .sge (BitVec.ofNat 32 y.val) 64#32) (X (ix3 0 r y)) (0 : EReal) := by
  pointwise [k0_pay8, k0_pay5, k0_pay6]

/-- A kept query row against a key: only the 64 lanes of its half count. -/
theorem row_score (X : Vec Ideal S1x512x128 .bf16) (e : Fin 2) (r : Fin 512) (x : Fin 768) :
    k0_pay12 (stackQ X) k (ix2 (row e r) x)
      = ∑ y : Fin 64, X (ix3 0 r ⟨e.val * 64 + y.val, by omega⟩) * k (ix3 0 x ⟨e.val * 64 + y.val, by omega⟩) := by
  rw [dot_apply]
  show ∑ y : Fin (64 + 64), _ = _
  rw [Fin.sum_univ_add]
  match e with
  | ⟨0, _⟩ =>
    have h : ∀ y : Fin 128, stackQ X (ix2 (row ⟨0, by omega⟩ r) y)
        = Scalar.select (IntOp.cmpi .slt (BitVec.ofNat 32 y.val) 64#32) (X (ix3 0 r y)) (0 : EReal) := fun y => by
      rw [← pay7_apply, ← stackQ_lo]
      congr 2
      exact Fin.ext (by show 0 * 512 + r.val = r.val; omega)
    have z : ∑ y : Fin 64, stackQ X (ix2 (row ⟨0, by omega⟩ r) (Fin.natAdd 64 y)) * k (ix3 0 x (Fin.natAdd 64 y)) = 0 :=
      Finset.sum_eq_zero fun y _ => by
        rw [h, lane_lo' y]
        show (0 : EReal) * _ = 0
        exact zero_mul _
    rw [z, add_zero]
    refine Finset.sum_congr rfl fun y _ => ?_
    rw [h, lane_lo y]
    show X (ix3 0 r (Fin.castAdd 64 y)) * k (ix3 0 x (Fin.castAdd 64 y)) = _
    rw [show (Fin.castAdd 64 y : Fin 128) = ⟨0 * 64 + y.val, by omega⟩ from Fin.ext (by show y.val = 0 * 64 + y.val; omega)]
  | ⟨1, _⟩ =>
    have h : ∀ y : Fin 128, stackQ X (ix2 (row ⟨1, by omega⟩ r) y)
        = Scalar.select (IntOp.cmpi .sge (BitVec.ofNat 32 y.val) 64#32) (X (ix3 0 r y)) (0 : EReal) := fun y => by
      rw [← pay8_apply, ← stackQ_hi]
      congr 2
    have z : ∑ y : Fin 64, stackQ X (ix2 (row ⟨1, by omega⟩ r) (Fin.castAdd 64 y)) * k (ix3 0 x (Fin.castAdd 64 y)) = 0 :=
      Finset.sum_eq_zero fun y _ => by
        rw [h, lane_hi y]
        show (0 : EReal) * _ = 0
        exact zero_mul _
    rw [z, zero_add]
    refine Finset.sum_congr rfl fun y _ => ?_
    rw [h, lane_hi' y]
    show X (ix3 0 r (Fin.natAdd 64 y)) * k (ix3 0 x (Fin.natAdd 64 y)) = _
    rw [show (Fin.natAdd 64 y : Fin 128) = ⟨1 * 64 + y.val, by omega⟩ from Fin.ext (by show 64 + y.val = 1 * 64 + y.val; omega)]

/-- What the last point of a run stores, at one element. -/
theorem out_apply (L : Vec Ideal S4x64 .f32) (o₀ o₁ : Vec Ideal S512x128 .f32) (l₀ l₁ : Vec Ideal S512x1 .f32)
    (w : Vec Ideal S1x128 .f32) (r : Fin 512) (d : Fin 128) :
    k0_pay3 (k0_pay4 L o₀ l₀ o₁ l₁ w) (ix3 0 r d)
      = norm (fun d => Ideal.div (o₀ (ix2 r d)) (l₀ (ix2 r 0))
          - lam (fun i => L (ix2 (i 1) (i 2))) * Ideal.div (o₁ (ix2 r d)) (l₁ (ix2 r 0))) w d := by
  unfold norm lam
  pointwise [k0_pay3, k0_pay4]

end Cert.Attention

end
-- ==== Proof.AttnBlocks.lean ====
/-
  What the windows of the attention hold at a grid point: the queries, the keys, the values, the coefficient's vectors and
  the norm's weights, read off the arguments.
-/
module

public import proofs.«01_k».proof.Proof.Gen.KernelIdeal.Frame
public import proofs.«01_k».proof.Proof.AttnSpec
public import Idealize.ShloMosaic.Lib.Pointwise

@[expose] public section

noncomputable section

namespace Cert.Attention

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments as the run starts with them. -/
abbrev argA : SQ.Idx → EReal := m ((c : Thread nD τ).loc main_arg0)
abbrev argP : SP.Idx → EReal := m ((c : Thread nD τ).loc main_arg1)
abbrev argL : SL.Idx → EReal := m ((c : Thread nD τ).loc main_arg2)
abbrev argW : SW.Idx → EReal := m ((c : Thread nD τ).loc main_arg3)

/-- The block indices of the windows at a grid point: batch `t / 1408`, head `t / 176 % 8`, query tile `t / 11 % 16`,
    key tile `t % 11`. -/
theorem idx_facts : ∀ t : Fin cfg0.N,
    (win0_0.index t 0 = t.val / 1408 ∧ win0_0.index t 1 = t.val / 11 % 16 ∧ win0_0.index t 2 = t.val / 176 % 8)
    ∧ (win0_1.index t 0 = t.val / 1408 ∧ win0_1.index t 1 = t.val % 11 ∧ win0_1.index t 2 = 8 + t.val / 176 % 8)
    ∧ (win0_2.index t 0 = t.val / 1408 ∧ win0_2.index t 1 = t.val % 11 ∧ win0_2.index t 2 = 48 + t.val / 176 % 8)
    ∧ (win0_3.index t 0 = 0 ∧ win0_3.index t 1 = 0) ∧ (win0_4.index t 0 = 0 ∧ win0_4.index t 1 = 0)
    ∧ (win0_5.index t 0 = t.val / 1408 ∧ win0_5.index t 1 = t.val / 11 % 16 ∧ win0_5.index t 2 = t.val / 176 % 8) :=
  (by decide +kernel : ∀ t : Fin grid0.N, _)

variable (t : Fin cfg0.N) (b : Fin 2) (h : Fin 8) (i : Fin 16) (j : Fin 11)
  (hb : b.val = t.val / 1408) (hh : h.val = t.val / 176 % 8) (hi : i.val = t.val / 11 % 16) (hj : j.val = t.val % 11)

include hb hh hi in
/-- The query block. -/
theorem blk0 (r : Fin 512) (y : Fin 128) :
    (X0_0 m c t : S1x512x128.Idx → EReal) (ix3 0 r y)
      = argA m c (ix3 b ⟨i.val * 512 + r.val, by omega⟩ ⟨h.val * 128 + y.val, by omega⟩) := by
  obtain ⟨⟨h0, h1, h2⟩, -⟩ := idx_facts t
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 1 + 1 * 0 = b.val; rw [h0]; omega
  | ⟨1, _⟩ => show win0_0.index t 1 * 512 + 1 * r.val = i.val * 512 + r.val; rw [h1]; omega
  | ⟨2, _⟩ => show win0_0.index t 2 * 128 + 1 * y.val = h.val * 128 + y.val; rw [h2]; omega

include hb hh hj in
/-- The key block. -/
theorem blk1 (x : Fin 768) (y : Fin 128) :
    (iblk m c 1 t : S1x768x128.Idx → EReal) (ix3 0 x y)
      = argA m c (ix3 b ⟨j.val * 768 + x.val, by omega⟩ ⟨1024 + (h.val * 128 + y.val), by omega⟩) := by
  obtain ⟨-, ⟨h0, h1, h2⟩, -⟩ := idx_facts t
  unfold iblk
  rw [View.read_apply]
  show V m c main_arg0 _ = _
  rw [V_main_arg0]
  congr 1
  funext a
  apply Fin.ext
  match a with
  | ⟨0, _⟩ => show win0_1.index t 0 * 1 + 1 * 0 = b.val; rw [h0]; omega
  | ⟨1, _⟩ => show win0_1.index t 1 * 768 + 1 * x.val = j.val * 768 + x.val; rw [h1]; omega
  | ⟨2, _⟩ => show win0_1.index t 2 * 128 + 1 * y.val = 1024 + (h.val * 128 + y.val); rw [h2]; omega

include hb hh hj in
/-- The value block. -/
theorem blk2 (x : Fin 768) (d : Fin 128) :
    (iblk m c 2 t : S1x768x128.Idx → EReal) (ix3 0 x d) = value (argP m c) b h ⟨j.val * 768 + x.val, by omega⟩ d := by
  obtain ⟨-, -, ⟨h0, h1, h2⟩, -⟩ := idx_facts t
  unfold iblk value
  rw [View.read_apply]
  show V m c main_arg1 _ = _
  rw [V_main_arg1]
  congr 1
  funext a
  apply Fin.ext
  match a with
  | ⟨0, _⟩ => show win0_2.index t 0 * 1 + 1 * 0 = b.val; rw [h0]; omega
  | ⟨1, _⟩ => show win0_2.index t 1 * 768 + 1 * x.val = j.val * 768 + x.val; rw [h1]; omega
  | ⟨2, _⟩ => show win0_2.index t 2 * 128 + 1 * d.val = 6144 + (h.val * 128 + d.val); rw [h2]; omega

theorem V0 (a : Fin 4) (x : Fin 64) : V m c main_v0 (ix2 a x) = argL m c (ix3 0 a x) := by
  entry_read
  pointwise

theorem V2 (d : Fin 128) : V m c main_v2 (ix2 0 d) = argW m c (ix2 0 d) := by
  entry_read
  pointwise

/-- The vectors of the coefficient. -/
theorem blk3 (a : Fin 4) (x : Fin 64) : (iblk m c 3 t : S4x64.Idx → EReal) (ix2 a x) = argL m c (ix3 0 a x) := by
  obtain ⟨-, -, -, ⟨h0, h1⟩, -⟩ := idx_facts t
  rw [← V0 m c a x]
  unfold iblk
  rw [View.read_apply]
  show V m c main_v0 _ = _
  congr 1
  funext n
  apply Fin.ext
  match n with
  | ⟨0, _⟩ => show win0_3.index t 0 * 4 + 1 * a.val = a.val; rw [h0]; omega
  | ⟨1, _⟩ => show win0_3.index t 1 * 64 + 1 * x.val = x.val; rw [h1]; omega

/-- The weights of the norm. -/
theorem blk4 (d : Fin 128) : (iblk m c 4 t : S1x128.Idx → EReal) (ix2 0 d) = argW m c (ix2 0 d) := by
  obtain ⟨-, -, -, -, ⟨h0, h1⟩, -⟩ := idx_facts t
  rw [← V2 m c d]
  unfold iblk
  rw [View.read_apply]
  show V m c main_v2 _ = _
  congr 1
  funext n
  apply Fin.ext
  match n with
  | ⟨0, _⟩ => show win0_4.index t 0 * 1 + 1 * 0 = 0; rw [h0]
  | ⟨1, _⟩ => show win0_4.index t 1 * 128 + 1 * d.val = d.val; rw [h1]; omega

end Cert.Attention

end
-- ==== Proof.AttnRun.lean ====
/-
  The running buffers of the attention along a run of eleven grid points: after key tile `j` they hold, row by row, the
  running maximum, sum and weighted sum of the first `768 * (j + 1)` keys.
-/
module

public import proofs.«01_k».proof.Proof.AttnStep
public import proofs.«01_k».proof.Proof.AttnBlocks
public import proofs.«01_k».proof.Proof.Gen.KernelIdeal.Value

@[expose] public section

set_option maxRecDepth 16384

noncomputable section

namespace Cert.Attention

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The query block of batch `b`, head `h`, tile `i`. -/
def qblk (b : Fin 2) (h : Fin 8) (i : Fin 16) : Vec Ideal S1x512x128 .bf16 := fun z =>
  argA m c (ix3 b ⟨i.val * 512 + (z 1).val, by have h : (z 1).val < 512 := (z 1).isLt; omega⟩
    ⟨h.val * 128 + (z 2).val, by have h : (z 2).val < 128 := (z 2).isLt; omega⟩)

/-- The query of row `r` of tile `i`. -/
def qrow (i : Fin 16) (r : Fin 512) : Fin 8192 := ⟨i.val * 512 + r.val, by omega⟩

/-- The number of the grid point of batch `b`, head `h`, query tile `i`, key tile `j`. -/
def pt (b : Fin 2) (h : Fin 8) (i : Fin 16) (j : ℕ) : ℕ := ((b.val * 8 + h.val) * 16 + i.val) * 11 + j

theorem pt_lt (b : Fin 2) (h : Fin 8) (i : Fin 16) (j : ℕ) (hj : j < 11) : pt b h i j < cfg0.N := by
  show _ < 2816
  unfold pt
  omega

/-- The rows of the four buffers after the first `n` keys. -/
structure Held (b : Fin 2) (h : Fin 8) (i : Fin 16) (n : ℕ) (q : Vec Ideal S1024x128 .bf16) (mx l : Vec Ideal S1024x1 .f32)
    (acc : Vec Ideal S1024x128 .f32) : Prop where
  hq : q = stackQ (qblk m c b h i)
  hr : ∀ (e : Fin 2) (r : Fin 512), IsRun (sgm (argA m c) b h e (qrow i r)) (nu (argP m c) b h) n
    (mx (ix2 (row e r) 0)) (l (ix2 (row e r) 0)) (fun d => acc (ix2 (row e r) d))

variable (fin : Finite (argA m c) (argP m c) (argL m c)) (b : Fin 2) (h : Fin 8) (i : Fin 16)

theorem blk0_eq (j : Fin 11) (t : Fin cfg0.N) (ht : t.val = pt b h i j.val) :
    (X0_0 m c t : S1x512x128.Idx → EReal) = qblk m c b h i := by
  unfold pt at ht
  funext z
  obtain ⟨r, y, rfl⟩ : ∃ (r : Fin 512) (y : Fin 128), z = ix3 0 r y :=
    ⟨z 1, z 2, by rw [eq_ix3 z]; congr 1; exact Subsingleton.elim _ _⟩
  rw [blk0 m c t b h i j (by omega) (by omega) (by omega) (by omega)]
  rfl

include fin in
/-- The scores of the kept rows against the keys of tile `j`. -/
theorem scores (j : Fin 11) (t : Fin cfg0.N) (ht : t.val = pt b h i j.val) (e : Fin 2) (r : Fin 512) (x : Fin 768) :
    k0_pay12 (stackQ (qblk m c b h i)) (iblk m c 1 t) (ix2 (row e r) x)
      = (sgm (argA m c) b h e (qrow i r) (j.val * 768 + x.val) : EReal) := by
  unfold pt at ht
  rw [row_score, ← score_real fin b h e (qrow i r) ⟨j.val * 768 + x.val, by omega⟩]
  unfold score
  refine Finset.sum_congr rfl fun y _ => ?_
  rw [blk1 m c t b h i j (by omega) (by omega) (by omega) (by omega)]
  unfold qblk qrow
  congr 2
  · congr 1
    exact Fin.ext (by show h.val * 128 + (e.val * 64 + y.val) = h.val * 128 + e.val * 64 + y.val; omega)
  · congr 1
    exact Fin.ext (by show 1024 + (h.val * 128 + (e.val * 64 + y.val)) = 1024 + (h.val * 128 + e.val * 64 + y.val); omega)

include fin in
theorem values (j : Fin 11) (t : Fin cfg0.N) (ht : t.val = pt b h i j.val) (x : Fin 768) (d : Fin 128) :
    (iblk m c 2 t : S1x768x128.Idx → EReal) (ix3 0 x d) = (nu (argP m c) b h (j.val * 768 + x.val) d : EReal) := by
  unfold pt at ht
  exact (blk2 m c t b h i j (by omega) (by omega) (by omega) x d).trans (value_real fin b h _ d)

include fin in
/-- The first point of a run. -/
theorem held_start (t : Fin cfg0.N) (ht : t.val = pt b h i 0) :
    Held m c b h i 768 (outsAt0 m c t.val t.isLt).2.1 (outsAt0 m c t.val t.isLt).2.2.1 (outsAt0 m c t.val t.isLt).2.2.2.1
      (outsAt0 m c t.val t.isLt).2.2.2.2 := by
  have h0 : t.val % 11 = 0 := by unfold pt at ht; omega
  rw [outsAt0_A m c t h0 (by omega)]
  dsimp only
  rw [A_q, A_max, A_sum, A_acc, blk0_eq m c b h i 0 t ht]
  refine ⟨rfl, fun e r => ?_⟩
  refine start_run _ _ _ _ _ _ (fun x => ?_) (fun x d => ?_)
  · have := scores m c fin b h i 0 t ht e r x
    rw [show (0 : Fin 11).val * 768 + x.val = x.val from by show 0 * 768 + x.val = x.val; omega] at this
    exact this
  · have := values m c fin b h i 0 t ht x d
    rw [show (0 : Fin 11).val * 768 + x.val = x.val from by show 0 * 768 + x.val = x.val; omega] at this
    exact this

include fin in
/-- One step, from buffers that hold the keys before tile `j`. -/
theorem held_step (j : Fin 11) (t : Fin cfg0.N) (ht : t.val = pt b h i j.val) (q : Vec Ideal S1024x128 .bf16)
    (mx l : Vec Ideal S1024x1 .f32) (acc : Vec Ideal S1024x128 .f32) (hp : Held m c b h i (j.val * 768) q mx l acc) :
    Held m c b h i (j.val * 768 + 768) q (stepM q (iblk m c 1 t) mx) (k0_pay16 q (iblk m c 1 t) mx l)
      (stepAcc q (iblk m c 1 t) mx acc (iblk m c 2 t)) := by
  obtain ⟨hq, hr⟩ := hp
  refine ⟨hq, fun e r => ?_⟩
  refine step_run q (iblk m c 1 t) (iblk m c 2 t) mx l acc _ _ _ _ (fun x => ?_) (fun x d => ?_) (hr e r)
  · rw [hq]; exact scores m c fin b h i j t ht e r x
  · exact values m c fin b h i j t ht x d

include fin in
/-- The buffers after key tile `j` hold the first `768 * (j + 1)` keys. -/
theorem held : ∀ (j : ℕ) (hj : j < 11) (t : Fin cfg0.N) (_ : t.val = pt b h i j),
    Held m c b h i (j * 768 + 768) (outsAt0 m c t.val t.isLt).2.1 (outsAt0 m c t.val t.isLt).2.2.1
      (outsAt0 m c t.val t.isLt).2.2.2.1 (outsAt0 m c t.val t.isLt).2.2.2.2
  | 0, _, t, ht => by rw [Nat.zero_mul, Nat.zero_add]; exact held_start m c fin b h i t ht
  | j + 1, hj, t, ht => by
    have ht' : t.val - 1 = pt b h i j := by unfold pt at ht ⊢; omega
    have ih := held j (by omega) ⟨t.val - 1, Nat.lt_of_le_of_lt (Nat.sub_le _ _) t.isLt⟩ ht'
    rw [show j * 768 + 768 = (j + 1) * 768 from by omega] at ih
    have st := held_step m c fin b h i ⟨j + 1, hj⟩ t ht _ _ _ _ ih
    have h0 : ¬t.val % 11 = 0 := by unfold pt at ht; omega
    by_cases h1 : t.val % 11 = 10
    · rw [outsAt0_C m c t h0 h1]
      dsimp only
      rw [C_max, C_sum, C_acc]
      exact st
    · rw [outsAt0_B m c t h0 h1]
      dsimp only
      rw [B_max, B_sum, B_acc]
      exact st

/-- A half of a buffer read at a row is the buffer at that half's row. -/
theorem half_lo (X : Vec Ideal S1024x128 .f32) (r : Fin 512) (d : Fin 128) :
    half 0 (by omega) X (ix2 r d) = X (ix2 (row 0 r) d) := by
  unfold half row; congr 2
theorem half_hi (X : Vec Ideal S1024x128 .f32) (r : Fin 512) (d : Fin 128) :
    half 512 (by omega) X (ix2 r d) = X (ix2 (row 1 r) d) := by
  unfold half row; congr 2
theorem half1_lo (X : Vec Ideal S1024x1 .f32) (r : Fin 512) :
    half1 0 (by omega) X (ix2 r 0) = X (ix2 (row 0 r) 0) := by
  unfold half1 row; congr 2
theorem half1_hi (X : Vec Ideal S1024x1 .f32) (r : Fin 512) :
    half1 512 (by omega) X (ix2 r 0) = X (ix2 (row 1 r) 0) := by
  unfold half1 row; congr 2

include fin in
/-- What the last point of a run stores: the normalised difference of the two averages over all the keys. -/
theorem stored (t : Fin cfg0.N) (ht : t.val = pt b h i 10) (r : Fin 512) (d : Fin 128) :
    ((outsAt0 m c t.val t.isLt).1 : S1x512x128.Idx → EReal) (ix3 0 r d)
      = norm (diff (argA m c) (argP m c) (argL m c) b h (qrow i r)) (argW m c) d := by
  have h0 : ¬t.val % 11 = 0 := by unfold pt at ht; omega
  have h1 : t.val % 11 = 10 := by unfold pt at ht; omega
  have ht' : t.val - 1 = pt b h i 9 := by unfold pt at ht ⊢; omega
  have ih := held m c fin b h i 9 (by omega) ⟨t.val - 1, Nat.lt_of_le_of_lt (Nat.sub_le _ _) t.isLt⟩ ht'
  obtain ⟨-, hr⟩ := held_step m c fin b h i 10 t ht _ _ _ _ ih
  rw [outsAt0_C m c t h0 h1]
  dsimp only
  rw [C_out, out_apply]
  have hl : lam (fun i => (iblk m c 3 t : S4x64.Idx → EReal) (ix2 (i 1) (i 2))) = lam (argL m c) := by
    unfold lam
    simp only [ix3_0, ix3_1, ix3_2, blk3]
  rw [hl]
  have hd : ∀ d, _ := fun d => ratio (hr 0 r) (by norm_num) d
  have hd' : ∀ d, _ := fun d => ratio (hr 1 r) (by norm_num) d
  have hw : ∀ o : Fin 128 → EReal, norm o (iblk m c 4 t) d = norm o (argW m c) d := fun o => by
    unfold norm; rw [blk4]
  rw [hw]
  congr 1
  funext d
  rw [half_lo, half_hi, half1_lo, half1_hi]
  unfold diff
  rw [EReal.coe_sub, EReal.coe_mul, ← lam_real fin]
  exact congrArg₂ (fun x y => x - lam (argL m c) * y) (hd d) (hd' d)

end Cert.Attention

end
-- ==== Proof.AttnRef.lean ====
/-
  What the reference attention computes at one element.
-/
module

public import proofs.«01_k».proof.Proof.AttnSpec
public import proofs.«01_k».proof.Proof.Gen.ReferenceIdeal.Read

@[expose] public section

noncomputable section

namespace Cert.Attention

open Cert.ReferenceIdeal Cert.ReferenceIdeal.Read
open Idealize.ShloMosaic

variable (A : SQ.Idx → EReal) (P : SP.Idx → EReal) (L : SL.Idx → EReal) (w : SW.Idx → EReal)

/-- The reference's scores. -/
theorem ref_score (b : Fin 2) (h : Fin 8) (e : Fin 2) (r : Fin 8192) (k : Fin 8448) :
    val_main_v28 (F := Ideal) A (ix5 b h e r k) = score A b h e r k := by
  pointwise [val_main_v28, val_main_v6, val_main_v5, val_main_v4, val_main_v3, val_main_v2, val_main_v1, val_main_v0]
  rfl

/-- The reference's largest score of a query. -/
theorem ref_max (b : Fin 2) (h : Fin 8) (e : Fin 2) (r : Fin 8192) :
    val_main_v31 (F := Ideal) A (ix4 b h e r) = max ⊥ (Finset.univ.fold max ⊥ fun k => score A b h e r k) := by
  simp only [← ref_score]
  rw [val_main_v31_apply, val_main_v30_apply, val_main_cst_3_apply]
  unfold val_main_v29
  generalize val_main_v28 (F := Ideal) A = y
  show max (Ideal.ofBits .f32 4286578688#32) (Host.reduce (max : EReal → EReal → EReal) y _ _ _ _) = _
  rw [ninf, Host.reduce_eq_fold_single (max : EReal → EReal → EReal) y _ Gen.reducesTo_S2x8x2x8192x8448_S2x8x2x8192_d4 (by decide) Gen.h_S_,
    val_main_cst_2_apply]
  show max ⊥ (Finset.fold max (Ideal.ofBits .f32 4286578688#32) _ _) = _
  rw [ninf]
  refine congrArg (max ⊥) (congrArg (fun f => Finset.fold max ⊥ f Finset.univ) (funext fun k => congrArg y ?_))
  exact funext fun a => Fin.ext (by match a with | ⟨0, _⟩ => rfl | ⟨1, _⟩ => rfl | ⟨2, _⟩ => rfl | ⟨3, _⟩ => rfl | ⟨4, _⟩ => rfl)

/-- The reference's weights of a query before they are divided by their sum. -/
theorem ref_exp (b : Fin 2) (h : Fin 8) (e : Fin 2) (r : Fin 8192) (k : Fin 8448) :
    val_main_v35 (F := Ideal) A (ix5 b h e r k)
      = Ideal.exp (score A b h e r k - max ⊥ (Finset.univ.fold max ⊥ fun k => score A b h e r k)) := by
  rw [← ref_max, ← ref_score]
  pointwise [val_main_v35, val_main_v34, val_main_v33, val_main_v32]

/-- The reference's softmax weights. -/
theorem ref_soft (b : Fin 2) (h : Fin 8) (e : Fin 2) (r : Fin 8192) (k : Fin 8448) :
    val_main_v39 (F := Ideal) A (ix5 b h e r k)
      = Ideal.div (Ideal.exp (score A b h e r k - max ⊥ (Finset.univ.fold max ⊥ fun k => score A b h e r k)))
          (∑ k', Ideal.exp (score A b h e r k' - max ⊥ (Finset.univ.fold max ⊥ fun k => score A b h e r k))) := by
  simp only [← ref_exp]
  pointwise [val_main_v39, val_main_v38, val_main_v37, val_main_v36, val_main_cst_4]

/-- The reference's coefficient. -/
theorem ref_lam (b : Fin 2) (h : Fin 8) (r : Fin 8192) (k : Fin 8448) :
    val_main_v44 (F := Ideal) L (ix4 b h r k) = lam L := by
  unfold lam
  pointwise [val_main_v44, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_cst, val_main_cst_0, val_main_cst_1]

/-- The reference's differential weights. -/
theorem ref_weight (b : Fin 2) (h : Fin 8) (r : Fin 8192) (k : Fin 8448) :
    val_main_v46 (F := Ideal) A L (ix4 b h r k)
      = val_main_v39 (F := Ideal) A (ix5 b h 0 r k) - lam L * val_main_v39 (F := Ideal) A (ix5 b h 1 r k) := by
  rw [← ref_lam L b h r k]
  rw [val_main_v46_apply, val_main_v45_apply, val_main_v43_apply, val_main_v42_apply, val_main_v41_apply, val_main_v40_apply]
  generalize val_main_v39 (F := Ideal) A = y
  have e0 : idx_main_v40 (idx_main_v41 (ix4 b h r k)) = ix5 b h 0 r k := funext fun a => Fin.ext (by
    match a with
    | ⟨0, _⟩ => show (((b.val * 8 + h.val) * 8192 + r.val) * 8448 + k.val) / 553648128 = b.val; omega
    | ⟨1, _⟩ => show (((b.val * 8 + h.val) * 8192 + r.val) * 8448 + k.val) / 69206016 % 8 = h.val; omega
    | ⟨2, _⟩ => rfl
    | ⟨3, _⟩ => show (((b.val * 8 + h.val) * 8192 + r.val) * 8448 + k.val) / 8448 % 8192 = r.val; omega
    | ⟨4, _⟩ => show (((b.val * 8 + h.val) * 8192 + r.val) * 8448 + k.val) % 8448 = k.val; omega)
  have e1 : idx_main_v42 (idx_main_v43 (ix4 b h r k)) = ix5 b h 1 r k := funext fun a => Fin.ext (by
    match a with
    | ⟨0, _⟩ => show (((b.val * 8 + h.val) * 8192 + r.val) * 8448 + k.val) / 553648128 = b.val; omega
    | ⟨1, _⟩ => show (((b.val * 8 + h.val) * 8192 + r.val) * 8448 + k.val) / 69206016 % 8 = h.val; omega
    | ⟨2, _⟩ => rfl
    | ⟨3, _⟩ => show (((b.val * 8 + h.val) * 8192 + r.val) * 8448 + k.val) / 8448 % 8192 = r.val; omega
    | ⟨4, _⟩ => show (((b.val * 8 + h.val) * 8192 + r.val) * 8448 + k.val) % 8448 = k.val; omega)
  rw [e0, e1]
  rfl

/-- The reference's values. -/
theorem ref_value (b : Fin 2) (h : Fin 8) (k : Fin 8448) (d : Fin 128) :
    val_main_v10 (F := Ideal) P (ix4 b h k d) = value P b h k d := by
  pointwise [val_main_v10, val_main_v9, val_main_v8, val_main_v7]
  rfl

/-- The reference's differential average of the values. -/
theorem ref_avg (b : Fin 2) (h : Fin 8) (r : Fin 8192) (d : Fin 128) :
    val_main_v48 (F := Ideal) A P L (ix4 b r h d)
      = ∑ k, val_main_v46 (F := Ideal) A L (ix4 b h r k) * value P b h k d := by
  simp only [← ref_value]
  pointwise [val_main_v48, val_main_v47]

/-- The reference's result from its normalised average: lane `n % 128` of head `n / 128`. -/
theorem ref_last (b : Fin 2) (r : Fin 8192) (n : Fin 1024) :
    val_main_v66 (F := Ideal) A P L w (ix3 b r n)
      = val_main_v64 (F := Ideal) A P L w (ix4 b r ⟨n.val / 128, by omega⟩ ⟨n.val % 128, by omega⟩) := by
  unfold val_main_v66 val_main_v65
  generalize val_main_v64 (F := Ideal) A P L w = y
  pointwise

/-- The reference's normalisation. -/
theorem ref_norm (b : Fin 2) (r : Fin 8192) (h : Fin 8) (d : Fin 128) :
    val_main_v64 (F := Ideal) A P L w (ix4 b r h d)
      = norm (fun d => val_main_v48 (F := Ideal) A P L (ix4 b r h d)) w d := by
  rw [val_main_v64_apply, val_main_v63_apply, val_main_cst_8_apply, val_main_v62_apply, val_main_v61_apply,
    val_main_v60_apply, val_main_v59_apply, val_main_v58_apply, val_main_v57_apply, val_main_v56_apply, val_main_v55_apply,
    val_main_v54_apply, val_main_cst_7_apply, val_main_v53_apply, val_main_v52_apply, val_main_cst_6_apply,
    val_main_v51_apply, val_main_v50_apply, val_main_cst_5_apply]
  have e : ∀ k, idx_main_v50 (idx_main_v51 (idx_main_v57 (ix4 b r h d))) k = ix4 b r h k := fun k =>
    funext fun a => Fin.ext (by match a with | ⟨0, _⟩ => rfl | ⟨1, _⟩ => rfl | ⟨2, _⟩ => rfl | ⟨3, _⟩ => rfl)
  have hs : (∑ k, val_main_v49 (F := Ideal) A P L (idx_main_v50 (idx_main_v51 (idx_main_v57 (ix4 b r h d))) k))
      = ∑ x, val_main_v48 (F := Ideal) A P L (ix4 b r h x) * val_main_v48 (F := Ideal) A P L (ix4 b r h x) :=
    Finset.sum_congr rfl fun k _ => by rw [e k, val_main_v49_apply]; rfl
  rw [hs]
  generalize val_main_v48 (F := Ideal) A P L = y
  have z : (FloatOps.ofBits FTy.f32 0#32 : Ideal .f32) = 0 := Ideal.ofBits_zero_f32
  have e' : idx_main_v59 (idx_main_v60 (idx_main_v61 (ix4 b r h d))) = ix2 0 d :=
    funext fun a => Fin.ext (by match a with | ⟨0, _⟩ => rfl | ⟨1, _⟩ => exact Nat.mod_eq_of_lt d.isLt)
  rw [e', z, zero_add]
  rfl

variable {A P L} (fin : Finite A P L)

include fin in
/-- For real inputs the reference's attention is the difference of the two averages. -/
theorem ref_diff (b : Fin 2) (h : Fin 8) (r : Fin 8192) (d : Fin 128) :
    val_main_v48 (F := Ideal) A P L (ix4 b r h d) = diff A P L b h r d := by
  have p := plain (N := 8448) (by norm_num) (sgm A b h 0 r) (sgm A b h 1 r) (nu P b h) (lam L).toReal (score A b h 0 r)
    (score A b h 1 r) (fun k => value P b h k d) d (fun k => score_real fin b h 0 r k)
    (fun k => score_real fin b h 1 r k) (fun k => value_real fin b h k d)
  rw [← lam_real fin] at p
  unfold diff
  rw [← p, ref_avg]
  refine Finset.sum_congr rfl fun k _ => ?_
  rw [ref_weight, ref_soft, ref_soft]

include fin in
/-- For real inputs the reference's result is `G`. -/
theorem ref_eq (b : Fin 2) (r : Fin 8192) (n : Fin 1024) :
    val_main_v66 (F := Ideal) A P L w (ix3 b r n) = G A P L w b r n := by
  rw [ref_last, ref_norm]
  unfold G
  rw [funext fun d => ref_diff fin b _ r d]

end Cert.Attention

end
-- ==== Proof.Attention.lean ====
/-
  The differential attention: what the result array holds after the run, and that the reference holds the same for
  arguments that are real numbers.
-/
module

public import proofs.«01_k».proof.Proof.AttnRun
public import proofs.«01_k».proof.Proof.AttnRef
public import proofs.«01_k».proof.Proof.Gen.Pre_finite_inputs
public import proofs.«01_k».proof.Defs
public import Idealize.ShloMosaic.Lib.Claim

@[expose] public section

set_option maxRecDepth 16384

noncomputable section

namespace Cert.Attention

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The result array: `G` of the arguments at every index. -/
def result : S2x8192x1024.Idx → EReal := fun z => G (argA m c) (argP m c) (argL m c) (argW m c) (z 0) (z 1) (z 2)

/-- A read of the result array at head `h`, lane `d`. -/
theorem result_apply (b : Fin 2) (h : Fin 8) (q : Fin 8192) (d : Fin 128) :
    result m c (ix3 b q ⟨h.val * 128 + d.val, by omega⟩)
      = norm (diff (argA m c) (argP m c) (argL m c) b h q) (argW m c) d := by
  show G _ _ _ _ b q ⟨h.val * 128 + d.val, _⟩ = _
  unfold G
  have e1 : (⟨(h.val * 128 + d.val) / 128, by omega⟩ : Fin 8) = h := Fin.ext (by show _ / 128 = _; omega)
  have e2 : (⟨(h.val * 128 + d.val) % 128, by omega⟩ : Fin 128) = d := Fin.ext (by show _ % 128 = _; omega)
  dsimp only
  rw [e1, e2]

variable (fin : Finite (argA m c) (argP m c) (argL m c))

include fin in
/-- The last point of each run writes back its block of the result array. -/
theorem flushed_eq (t : Fin cfg0.N) (hf : (cfg0.win 5).flush t = true) :
    (dats m 0 c).flushed 5 t = ((cfg0.win 5).blk t).view.read (Elt Ideal) (result m c) := by
  have hN : t.val < 2816 := t.isLt
  have h10 : t.val % 11 = 10 := (flush0_5 t).1 hf
  obtain ⟨-, -, -, -, -, h0, h1, h2⟩ := idx_facts t
  rw [Cert.KernelIdeal.Value.flushed5]
  funext j
  rw [View.read_apply]
  show ((outsAt0 m c t.val t.isLt).1 : S1x512x128.Idx → EReal) j = result m c (((cfg0.win 5).blk t).view.emb j)
  have hj : ∃ (r : Fin 512) (n : Fin 128), (j : S1x512x128.Idx) = ix3 0 r n :=
    ⟨j 1, j 2, by rw [eq_ix3 (j : S1x512x128.Idx)]; congr 1; exact Subsingleton.elim _ _⟩
  obtain ⟨r, d, rfl⟩ := hj
  have he : ((cfg0.win 5).blk t).view.emb (ix3 0 r d : S1x512x128.Idx)
      = (ix3 (⟨t.val / 1408, by omega⟩ : Fin 2) (qrow ⟨t.val / 11 % 16, by omega⟩ r)
          ⟨(⟨t.val / 176 % 8, by omega⟩ : Fin 8).val * 128 + d.val, by dsimp only; omega⟩ : S2x8192x1024.Idx) := by
    funext a
    apply Fin.ext
    match a with
    | ⟨0, _⟩ => show win0_5.index t 0 * 1 + 1 * 0 = t.val / 1408; rw [h0]; omega
    | ⟨1, _⟩ => show win0_5.index t 1 * 512 + 1 * r.val = _; rw [h1]; show _ = t.val / 11 % 16 * 512 + r.val; omega
    | ⟨2, _⟩ => show win0_5.index t 2 * 128 + 1 * d.val = _; rw [h2]; show _ = t.val / 176 % 8 * 128 + d.val; omega
  rw [he, result_apply]
  exact stored m c fin ⟨t.val / 1408, by omega⟩ ⟨t.val / 176 % 8, by omega⟩ ⟨t.val / 11 % 16, by omega⟩ t
    (by unfold pt; dsimp only; omega) r d

include fin in
/-- After the run the result array is `result`: every index lies in the block of the last point of one run. -/
theorem final : (dats m 0 c).arrAt 5 cfg0.N = result m c :=
  (dats m 0 c).arrAt_eq_of_cover 5 (result m c) (fun t hf => flushed_eq m c fin t hf) fun (i : S2x8192x1024.Idx) => by
    have h0 : (i 0 : Nat) < 2 := (i 0).isLt
    have h1 : (i 1 : Nat) < 8192 := (i 1).isLt
    have h2 : (i 2 : Nat) < 1024 := (i 2).isLt
    have hN : (((i 0 : Nat) * 8 + (i 2 : Nat) / 128) * 16 + (i 1 : Nat) / 512) * 11 + 10 < 2816 := by omega
    obtain ⟨T, hT⟩ : ∃ T : Fin cfg0.N, T.val = (((i 0 : Nat) * 8 + (i 2 : Nat) / 128) * 16 + (i 1 : Nat) / 512) * 11 + 10 :=
      ⟨⟨_, hN⟩, rfl⟩
    refine ⟨T, (flush0_5 T).2 (by omega), ?_⟩
    obtain ⟨-, -, -, -, -, e0, e1, e2⟩ := idx_facts T
    show i ∈ ((View.whole main_v3).slice (win0_5.rect T)).set
    rw [View.set_slice_whole, Rect.mem_set_unit]
    intro a
    match a with
    | ⟨0, _⟩ => show win0_5.index _ 0 * 1 ≤ (i 0 : Nat) ∧ (i 0 : Nat) < win0_5.index _ 0 * 1 + 1
                rw [e0]; omega
    | ⟨1, _⟩ => show win0_5.index _ 1 * 512 ≤ (i 1 : Nat) ∧ (i 1 : Nat) < win0_5.index _ 1 * 512 + 512
                rw [e1]; omega
    | ⟨2, _⟩ => show win0_5.index _ 2 * 128 ≤ (i 2 : Nat) ∧ (i 2 : Nat) < win0_5.index _ 2 * 128 + 128
                rw [e2]; omega

/-- An extended real whose absolute value lies below the infinite word is a real number. -/
theorem real_of_lt (x : EReal) (h : Ideal.cmp .olt (max x (-x)) (Ideal.ofBits .f32 0x7F800000#32) = 1#1) :
    ∃ y : ℝ, x = (y : EReal) := by
  have inf : (Ideal.ofBits .f32 0x7F800000#32 : EReal) = ⊤ := by simp [Ideal.ofBits, Ideal.ieee]
  rw [inf] at h
  induction x with
  | bot => simp [Ideal.cmp] at h
  | top => simp [Ideal.cmp] at h
  | coe y => exact ⟨y, rfl⟩

/-- The precondition makes every element the attention reads, but for the norm's weights, a real number. -/
theorem finite_of_pre (hpre : Cert.Pre_KernelIdeal_finite_inputs (hPre_finite_inputs := Cert.Pre_finite_inputs.Gen.facts) m) :
    Finite (argA m c) (argP m c) (argL m c) := by
  obtain ⟨h1, h2, h3⟩ := hpre c
  refine ⟨fun z => real_of_lt _ ?_, fun b k n => real_of_lt _ ?_, fun z => real_of_lt _ ?_⟩
  · exact congrFun h1 z
  · have e : ((ix3 b k ⟨6144 + n.val, by omega⟩ : SP.Idx)) = fun a => ⟨(![0, 0, 6144] : Fin 3 → ℕ) a + ((ix3 b k n : Cert.Pre_finite_inputs.S2x8448x1024.Idx) a).val, by
        match a with
        | ⟨0, _⟩ => show 0 + b.val < 2; omega
        | ⟨1, _⟩ => show 0 + k.val < 8448; omega
        | ⟨2, _⟩ => show 6144 + n.val < 11264; omega⟩ := funext fun a => Fin.ext (by
      match a with
      | ⟨0, _⟩ => show b.val = 0 + b.val; omega
      | ⟨1, _⟩ => show k.val = 0 + k.val; omega
      | ⟨2, _⟩ => rfl)
    rw [e]
    exact congrFun h2 (ix3 b k n)
  · exact congrFun h3 z

/-- From memories that agree on the arguments and satisfy the precondition, kernel and reference end with the same
    result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  pair_intro
  · run_from Cert.KernelIdeal.Value.run_blocks m g
  · run_from Cert.ReferenceIdeal.Value.run m' g'
    have fin := finite_of_pre m c hpre
    rw [final m c fin]
    funext i
    obtain ⟨b, r, n, rfl⟩ : ∃ (b : Fin 2) (r : Fin 8192) (n : Fin 1024), i = ix3 b r n := ⟨i 0, i 1, i 2, eq_ix3 i⟩
    rw [Cert.ReferenceIdeal.Read.val_main_v66_eq, (hagree c).1, (hagree c).2.1, (hagree c).2.2.1, (hagree c).2.2.2]
    exact ref_eq _ fin b r n

end Cert.Attention

end
-- ==== Proof.InSpec.lean ====
/-
  The input projection at one element: the normalised and modulated row against a column of the weights.
-/
module

public import Idealize.ShloMosaic.Lib.Pointwise

@[expose] public section

noncomputable section

namespace Cert.InProj

open Idealize.ShloMosaic

abbrev SX : Shape := ⟨3, ![2, 8192, 2048]⟩
abbrev SC : Shape := ⟨3, ![2, 256, 2048]⟩
abbrev SM : Shape := ⟨2, ![8, 12288]⟩
abbrev SN : Shape := ⟨2, ![1, 2048]⟩
abbrev SW : Shape := ⟨3, ![1, 2048, 11296]⟩
abbrev SB : Shape := ⟨2, ![1, 11296]⟩

/-- Row `r` of batch `b`: the latent rows first, the context rows after them. -/
def xall (X : SX.Idx → EReal) (C : SC.Idx → EReal) (b : Fin 2) (r : Fin 8448) (k : Fin 2048) : EReal :=
  if h : r.val < 8192 then X (ix3 b ⟨r.val, h⟩ k) else C (ix3 b ⟨r.val - 8192, by omega⟩ k)

/-- The row of the modulation that belongs to row `r` of batch `b`: the batch's own, or row 2 for a context row. -/
def mrow (b : Fin 2) (r : Fin 8448) : Fin 8 := if r.val < 8192 then ⟨b.val, by omega⟩ else 2

/-- The root-mean-square normalisation of a row of 2048 lanes, and its weights. -/
def rms (x : Fin 2048 → EReal) (w : SN.Idx → EReal) (k : Fin 2048) : EReal :=
  x k * Ideal.rsqrt (Ideal.div (∑ y, x y * x y) (Ideal.ofBits .f32 0x45000000#32) + Ideal.ofBits .f32 0x358637BD#32)
    * w (ix2 0 k)

/-- The row the projection multiplies. -/
def lhs (X : SX.Idx → EReal) (C : SC.Idx → EReal) (M : SM.Idx → EReal) (N : SN.Idx → EReal) (b : Fin 2) (r : Fin 8448)
    (k : Fin 2048) : EReal :=
  rms (xall X C b r) N k * (Ideal.ofBits .f32 0x3F800000#32 + M (ix2 (mrow b r) ⟨2048 + k.val, by omega⟩))
    + M (ix2 (mrow b r) ⟨k.val, by omega⟩)

/-- The column of the weights for column `n` of the result: the 32 gate columns are left out. -/
def col (n : Fin 11264) : Fin 11296 := if n.val < 4096 then ⟨n.val, by omega⟩ else ⟨n.val + 32, by omega⟩

/-- One element of the result. -/
def G (X : SX.Idx → EReal) (C : SC.Idx → EReal) (M : SM.Idx → EReal) (N : SN.Idx → EReal) (W : SW.Idx → EReal)
    (B : SB.Idx → EReal) (b : Fin 2) (r : Fin 8448) (n : Fin 11264) : EReal :=
  ∑ k : Fin 2048, lhs X C M N b r k * W (ix3 0 k (col n)) + B (ix2 0 (col n))

end Cert.InProj

end
-- ==== Proof.InStep.lean ====
/-
  What one grid point of the input projection keeps and stores: the normalised and modulated rows, and their product with
  a block of the weights.
-/
module

public import proofs.«01_k».proof.Proof.Gen.Kernel2Ideal.Frame
public import proofs.«01_k».proof.Proof.InSpec
public import Idealize.ShloMosaic.Lib.Pipeline.ValueKit
public import Idealize.ShloMosaic.Lib.WordCmp

@[expose] public section

set_option maxRecDepth 16384

noncomputable section

namespace Cert.InProj

open Cert.Kernel2Ideal Cert.Kernel2Ideal.Gen
open Idealize.ShloMosaic Idealize.ShloMosaic.TcCoe Idealize.ShloMosaic.Tactic Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

variable (c : Dev nD) (i : grid0.Coords)
  (a3 : Memref sig .tc .vmem S1x768x2048 .f32) (h3 : a3.IsWhole)
  (a4 : Memref sig .tc .vmem S1x2048 .f32) (h4 : a4.IsWhole)
  (a5 : Memref sig .tc .vmem S1x2x2048 .f32) (h5 : a5.IsWhole)
  (a6 : Memref sig .tc .vmem S1x2x2048 .f32) (h6 : a6.IsWhole)
  (a7 : Memref sig .tc .vmem S2048x1024 .bf16) (h7 : a7.IsWhole)
  (a8 : Memref sig .tc .vmem S1x1024 .f32) (h8 : a8.IsWhole)
  (a9 : Memref sig .tc .vmem S1x768x1024 .bf16) (h9 : a9.IsWhole)
  (a10 : Memref sig .tc .vmem S768x2048 .bf16) (h10 : a10.IsWhole)
  (x0 : Vec Ideal S1x768x2048 .f32) (x1 : Vec Ideal S1x2048 .f32) (x2 x3 : Vec Ideal S1x2x2048 .f32)
  (x4 : Vec Ideal S2048x1024 .bf16) (x5 : Vec Ideal S1x1024 .f32) (s : Vec Ideal S768x2048 .bf16)

/-- Row `o` of a pair of rows. -/
def row2 (o : Fin 2) (X : Vec Ideal S1x2x2048 .f32) : Vec Ideal S1x1x2048 .f32 := fun j => X (ix3 0 o (j 2))

/-- The rows a point of column tile 0 keeps. -/
def kept (a : BitVec 32) (x0 : Vec Ideal S1x768x2048 .f32) (x1 : Vec Ideal S1x2048 .f32) (x2 x3 : Vec Ideal S1x2x2048 .f32) :
    Vec Ideal S768x2048 .bf16 :=
  k0_pay1 (k0_pay3 x0 x1) (k0_pay5 a (row2 1 x2) (row2 0 x2)) (k0_pay6 (row2 1 x3)) (k0_pay7 (row2 0 x3)) (k0_pay8 a)

theorem ld_row1 (X : Vec Ideal S1x2x2048 .f32) (inb : _) :
    (fun j => X ((Rect.unit (s := S1x2x2048) ![0, 1, 0] ![1, 1, 2048] inb).toLoadRect.idx j)) = row2 1 X := by
  funext j
  exact congrArg X (funext fun a => Fin.ext (by
    have h0 : (j 0).val < 1 := (j 0).isLt
    have h1 : (j 1).val < 1 := (j 1).isLt
    match a with
    | ⟨0, _⟩ => show 0 + 1 * (j 0).val = 0; omega
    | ⟨1, _⟩ => show 1 + 1 * (j 1).val = 1; omega
    | ⟨2, _⟩ => show 0 + 1 * (j 2).val = (j 2).val; omega))

theorem ld_row0 (X : Vec Ideal S1x2x2048 .f32) (inb : _) :
    (fun j => X ((Rect.unit (s := S1x2x2048) ![0, 0, 0] ![1, 1, 2048] inb).toLoadRect.idx j)) = row2 0 X := by
  funext j
  exact congrArg X (funext fun a => Fin.ext (by
    have h0 : (j 0).val < 1 := (j 0).isLt
    have h1 : (j 1).val < 1 := (j 1).isLt
    match a with
    | ⟨0, _⟩ => show 0 + 1 * (j 0).val = 0; omega
    | ⟨1, _⟩ => show 0 + 1 * (j 1).val = 0; omega
    | ⟨2, _⟩ => show 0 + 1 * (j 2).val = (j 2).val; omega))

/-- A point of column tile 0 keeps its rows. -/
theorem A_kept (hc0 : cond0_0 i) :
    sout0_A_0 c i a3 h3 a4 h4 a5 h5 a6 h6 a7 h7 a8 h8 a9 h9 a10 h10 hc0 x0 x1 x2 x3 x4 x5
      = kept (BitVec.ofNat 32 (i 1).val) x0 x1 x2 x3 := by
  unfold sout0_A_0
  rw [View.read_writes_eq_canon _ _ _ (scover0_A_0 c i a3 h3 a4 h4 a5 h5 a6 h6 a7 h7 a8 h8 a9 h9 a10 h10 hc0 x0 x1 x2 x3 x4 x5)]
  unfold kernelRun0_A
  dsimp only
  sl_unfold_words
  rw [View.canon_unit_zero (S := S768x2048) hz2]
  simp only [View.readAt_eq_ld, h3.read_unread, h4.read_unread, h5.read_unread, h6.read_unread, h7.read_unread,
    h8.read_unread, View.ld_unit_zero (S := S1x768x2048) hz3, View.ld_unit_zero (S := S1x2048) hz2]
  unfold kept
  rw [← ld_row1 x2 inb_S1x2x2048_S1x1x2048_0_1_0, ← ld_row0 x2 inb_S1x2x2048_S1x1x2048_0_0_0,
    ← ld_row1 x3 inb_S1x2x2048_S1x1x2048_0_1_0, ← ld_row0 x3 inb_S1x2x2048_S1x1x2048_0_0_0]

/-- A point of column tile 0 stores the product of the rows it keeps. -/
theorem A_out (hc0 : cond0_0 i) :
    out0_A_6 c i a3 h3 a4 h4 a5 h5 a6 h6 a7 h7 a8 h8 a9 h9 a10 h10 hc0 x0 x1 x2 x3 x4 x5
      = k0_pay2 (kept (BitVec.ofNat 32 (i 1).val) x0 x1 x2 x3) x4 x5 := by
  unfold out0_A_6
  rw [View.read_writes_eq_canon _ _ _ (cover0_A_6 c i a3 h3 a4 h4 a5 h5 a6 h6 a7 h7 a8 h8 a9 h9 a10 h10 hc0 x0 x1 x2 x3 x4 x5)]
  unfold kernelRun0_A
  dsimp only
  sl_unfold_words
  rw [View.canon_unit_zero (S := S1x768x1024) hz3]
  simp only [View.readAt_eq_ld, h3.read_unread, h4.read_unread, h5.read_unread, h6.read_unread, h7.read_unread,
    h8.read_unread, View.ld_unit_zero (S := S1x768x2048) hz3, View.ld_unit_zero (S := S1x2048) hz2,
    View.ld_unit_zero (S := S2048x1024) hz2, View.ld_unit_zero (S := S1x1024) hz2,
    View.ld_unit_zero (S := S768x2048) hz2, View.readCov_unit_zero (S := S768x2048) _ hz2]
  unfold kept
  rw [← ld_row1 x2 inb_S1x2x2048_S1x1x2048_0_1_0, ← ld_row0 x2 inb_S1x2x2048_S1x1x2048_0_0_0,
    ← ld_row1 x3 inb_S1x2x2048_S1x1x2048_0_1_0, ← ld_row0 x3 inb_S1x2x2048_S1x1x2048_0_0_0]

/-- Any other point stores the product of the rows kept before it. -/
theorem B_out (hc0 : ¬cond0_0 i) :
    out0_B_6 c i a3 h3 a4 h4 a5 h5 a6 h6 a7 h7 a8 h8 a9 h9 a10 h10 hc0 x0 x1 x2 x3 x4 x5 s = k0_pay2 s x4 x5 := by
  unfold out0_B_6
  rw [View.read_writes_eq_canon _ _ _ (cover0_B_6 c i a3 h3 a4 h4 a5 h5 a6 h6 a7 h7 a8 h8 a9 h9 a10 h10 hc0 x0 x1 x2 x3 x4 x5 s)]
  unfold kernelRun0_B
  dsimp only
  sl_unfold_words
  rw [View.canon_unit_zero (S := S1x768x1024) hz3]
  simp only [View.readAt_eq_ld, h3.read_unread, h4.read_unread, h5.read_unread, h6.read_unread, h7.read_unread,
    h8.read_unread, h10.read_unread, View.ld_unit_zero (S := S2048x1024) hz2, View.ld_unit_zero (S := S1x1024) hz2,
    View.ld_unit_zero (S := S768x2048) hz2]

/-- Any other point keeps what was kept before it. -/
theorem B_kept (hc0 : ¬cond0_0 i) :
    sout0_B_0 c i a3 h3 a4 h4 a5 h5 a6 h6 a7 h7 a8 h8 a9 h9 a10 h10 hc0 x0 x1 x2 x3 x4 x5 s = s := rfl

/-- The kernel's choice between the two rows: the second from row 8192 on. -/
theorem mask (a : Fin 11) (r : Fin 768) (u v : EReal) :
    Scalar.select (IntOp.cmpi .sge (IntOp.addi (Scalar.muli (BitVec.ofNat 32 a.val) 768#32) (BitVec.ofNat 32 r.val)) 8192#32) u v
      = if a.val * 768 + r.val < 8192 then v else u := by
  have e : IntOp.addi (Scalar.muli (BitVec.ofNat 32 a.val) 768#32) (BitVec.ofNat 32 r.val)
      = BitVec.ofNat 32 (a.val * 768 + r.val) := by
    show BitVec.ofNat 32 a.val * BitVec.ofNat 32 768 + BitVec.ofNat 32 r.val = _
    rw [← BitVec.ofNat_mul, ← BitVec.ofNat_add]
  rw [e, show (8192#32 : BitVec 32) = BitVec.ofNat 32 8192 from rfl,
    WordCmp.cmpi_sge_ofNat (by omega) (by norm_num)]
  by_cases h : a.val * 768 + r.val < 8192
  · rw [if_pos h, decide_eq_false (by omega)]; rfl
  · rw [if_neg h, decide_eq_true (by omega)]; rfl

/-- A kept row at a lane. -/
theorem kept_apply (a : Fin 11) (r : Fin 768) (k : Fin 2048) :
    kept (BitVec.ofNat 32 a.val) x0 x1 x2 x3 (ix2 r k)
      = rms (fun y => x0 (ix3 0 r y)) x1 k
          * (Ideal.ofBits .f32 0x3F800000#32 + x3 (ix3 0 (if a.val * 768 + r.val < 8192 then 0 else 1) k))
        + x2 (ix3 0 (if a.val * 768 + r.val < 8192 then 0 else 1) k) := by
  pointwise [kept, k0_pay1, k0_pay3, k0_pay5, k0_pay6, k0_pay7, k0_pay8, k0_pay4, row2, rms]
  rw [mask, mask]
  split_ifs <;> rfl

/-- A stored element. -/
theorem prod_apply (r : Fin 768) (n : Fin 1024) :
    k0_pay2 s x4 x5 (ix3 0 r n) = ∑ k : Fin 2048, s (ix2 r k) * x4 (ix2 k n) + x5 (ix2 0 n) := by
  pointwise [k0_pay2]

end Cert.InProj

end
-- ==== Proof.InBlocks.lean ====
/-
  What the windows of the input projection hold at a grid point, read off the arguments.
-/
module

public import proofs.«01_k».proof.Proof.InStep

@[expose] public section

set_option maxRecDepth 16384

noncomputable section

namespace Cert.InProj

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The arguments as the run starts with them. -/
abbrev argX : SX.Idx → EReal := m ((c : Thread nD τ).loc main_arg0)
abbrev argC : SC.Idx → EReal := m ((c : Thread nD τ).loc main_arg1)
abbrev argM : SM.Idx → EReal := m ((c : Thread nD τ).loc main_arg2)
abbrev argN : SN.Idx → EReal := m ((c : Thread nD τ).loc main_arg3)
abbrev argW : SW.Idx → EReal := m ((c : Thread nD τ).loc main_arg4)
abbrev argB : SB.Idx → EReal := m ((c : Thread nD τ).loc main_arg5)

/-- All rows as the region starts with them. -/
theorem V6 (b : Fin 2) (r : Fin 8448) (k : Fin 2048) :
    V m c main_v6 (ix3 b r k) = xall (argX m c) (argC m c) b r k := by
  entry_read
  unfold xall
  by_cases h : r.val < 8192
  · rw [dif_pos h]
    exact concatenate_pair_apply_left (s₁ := S2x8192x2048) (s₂ := S2x256x2048) (t := S2x8448x2048) 1 _ _ _ (ix3 b r k) rfl
      (ix3 b (⟨r.val, h⟩ : Fin 8192) k) (fun a => by
        match a with | ⟨0, _⟩ => rfl | ⟨1, _⟩ => rfl | ⟨2, _⟩ => rfl)
  · rw [dif_neg h]
    exact concatenate_pair_apply_right (s₁ := S2x8192x2048) (s₂ := S2x256x2048) (t := S2x8448x2048) 1 _ _ _ (ix3 b r k) rfl rfl
      (ix3 b (⟨r.val - 8192, by omega⟩ : Fin 256) k) (fun a => by
        match a with
        | ⟨0, _⟩ => exact fun _ => Eq.refl b.val
        | ⟨1, _⟩ => exact fun h => absurd rfl h
        | ⟨2, _⟩ => exact fun _ => Eq.refl k.val) (by show r.val - 8192 + 8192 = r.val; omega)

/-- The weights as the region starts with them. -/
theorem V12 (k : Fin 2048) (n : Fin 11264) :
    V m c main_v12 (ix2 k n) = argW m c (ix3 0 k (col n)) := by
  entry_read
  unfold col
  pointwise
  by_cases h : n.val < 4096
  · rw [dif_pos h, if_pos h]
  · rw [dif_neg h, if_neg h]
    simp only [show 4128 + (n.val - 4096) = n.val + 32 from by omega]

/-- The bias as the region starts with it. -/
theorem V30 (n : Fin 11264) :
    V m c main_v30 (ix2 0 n) = argB m c (ix2 0 (col n)) := by
  entry_read
  unfold col
  pointwise
  by_cases h : n.val < 4096
  · rw [dif_pos h, if_pos h]
  · rw [dif_neg h, if_neg h]
    simp only [show 4128 + (n.val - 4096) = n.val + 32 from by omega]

/-- The norm's weights as the region starts with them. -/
theorem V29 (k : Fin 2048) : V m c main_v29 (ix2 0 k) = argN m c (ix2 0 k) := by
  entry_read
  pointwise

/-- The shift's two rows as the region starts with them: the batch's own and row 2 of the modulation. -/
theorem V22 (b : Fin 2) (o : Fin 2) (k : Fin 2048) :
    V m c main_v22 (ix3 b o k)
      = argM m c (ix2 (if o = 0 then ⟨b.val, by omega⟩ else 2) ⟨k.val, by omega⟩) := by
  entry_read
  match o with
  | 0 => pointwise
  | 1 => pointwise

/-- The scale's two rows as the region starts with them. -/
theorem V28 (b : Fin 2) (o : Fin 2) (k : Fin 2048) :
    V m c main_v28 (ix3 b o k)
      = argM m c (ix2 (if o = 0 then ⟨b.val, by omega⟩ else 2) ⟨2048 + k.val, by omega⟩) := by
  entry_read
  match o with
  | 0 => pointwise
  | 1 => pointwise

/-- The block indices of the windows at a grid point: batch `t / 121`, row tile `t / 11 % 11`, column tile `t % 11`. -/
theorem idx_facts : ∀ t : Fin cfg0.N,
    (win0_0.index t 0 = t.val / 121 ∧ win0_0.index t 1 = t.val / 11 % 11 ∧ win0_0.index t 2 = 0)
    ∧ (win0_1.index t 0 = 0 ∧ win0_1.index t 1 = 0)
    ∧ (win0_2.index t 0 = t.val / 121 ∧ win0_2.index t 1 = 0 ∧ win0_2.index t 2 = 0)
    ∧ (win0_3.index t 0 = t.val / 121 ∧ win0_3.index t 1 = 0 ∧ win0_3.index t 2 = 0)
    ∧ (win0_4.index t 0 = 0 ∧ win0_4.index t 1 = t.val % 11)
    ∧ (win0_5.index t 0 = 0 ∧ win0_5.index t 1 = t.val % 11)
    ∧ (win0_6.index t 0 = t.val / 121 ∧ win0_6.index t 1 = t.val / 11 % 11 ∧ win0_6.index t 2 = t.val % 11)
    ∧ (grid0.coords t 1).val = t.val / 11 % 11 :=
  (by decide +kernel : ∀ t : Fin grid0.N, _)

variable (t : Fin cfg0.N) (b : Fin 2) (i : Fin 11) (j : Fin 11)
  (hb : b.val = t.val / 121) (hi : i.val = t.val / 11 % 11) (hj : j.val = t.val % 11)

include hb hi in
/-- The window of the rows. -/
theorem blk0 (r : Fin 768) (k : Fin 2048) :
    (iblk m c 0 t : S1x768x2048.Idx → EReal) (ix3 0 r k) = xall (argX m c) (argC m c) b ⟨i.val * 768 + r.val, by omega⟩ k := by
  obtain ⟨⟨h0, h1, h2⟩, -⟩ := idx_facts t
  rw [← V6 m c]
  unfold iblk
  rw [View.read_apply]
  show V m c main_v6 _ = _
  congr 1
  funext a
  apply Fin.ext
  match a with
  | ⟨0, _⟩ => show win0_0.index t 0 * 1 + 1 * 0 = b.val; rw [h0]; omega
  | ⟨1, _⟩ => show win0_0.index t 1 * 768 + 1 * r.val = i.val * 768 + r.val; rw [h1]; omega
  | ⟨2, _⟩ => show win0_0.index t 2 * 2048 + 1 * k.val = k.val; rw [h2]; omega

/-- The window of the norm's weights. -/
theorem blk1 (k : Fin 2048) : (iblk m c 1 t : S1x2048.Idx → EReal) (ix2 0 k) = argN m c (ix2 0 k) := by
  obtain ⟨-, ⟨h0, h1⟩, -⟩ := idx_facts t
  rw [← V29 m c]
  unfold iblk
  rw [View.read_apply]
  show V m c main_v29 _ = _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

include hb in
/-- The window of the shift. -/
theorem blk2 (o : Fin 2) (k : Fin 2048) :
    (iblk m c 2 t : S1x2x2048.Idx → EReal) (ix3 0 o k)
      = argM m c (ix2 (if o = 0 then ⟨b.val, by omega⟩ else 2) ⟨k.val, by omega⟩) := by
  obtain ⟨-, -, ⟨h0, h1, h2⟩, -⟩ := idx_facts t
  rw [← V22 m c b o k]
  unfold iblk
  rw [View.read_apply]
  show V m c main_v22 _ = _
  congr 1
  funext a
  apply Fin.ext
  match a with
  | ⟨0, _⟩ => show win0_2.index t 0 * 1 + 1 * 0 = b.val; rw [h0]; omega
  | ⟨1, _⟩ => show win0_2.index t 1 * 2 + 1 * o.val = o.val; rw [h1]; omega
  | ⟨2, _⟩ => show win0_2.index t 2 * 2048 + 1 * k.val = k.val; rw [h2]; omega

include hb in
/-- The window of the scale. -/
theorem blk3 (o : Fin 2) (k : Fin 2048) :
    (iblk m c 3 t : S1x2x2048.Idx → EReal) (ix3 0 o k)
      = argM m c (ix2 (if o = 0 then ⟨b.val, by omega⟩ else 2) ⟨2048 + k.val, by omega⟩) := by
  obtain ⟨-, -, -, ⟨h0, h1, h2⟩, -⟩ := idx_facts t
  rw [← V28 m c b o k]
  unfold iblk
  rw [View.read_apply]
  show V m c main_v28 _ = _
  congr 1
  funext a
  apply Fin.ext
  match a with
  | ⟨0, _⟩ => show win0_3.index t 0 * 1 + 1 * 0 = b.val; rw [h0]; omega
  | ⟨1, _⟩ => show win0_3.index t 1 * 2 + 1 * o.val = o.val; rw [h1]; omega
  | ⟨2, _⟩ => show win0_3.index t 2 * 2048 + 1 * k.val = k.val; rw [h2]; omega

include hj in
/-- The window of the weights. -/
theorem blk4 (k : Fin 2048) (n : Fin 1024) :
    (iblk m c 4 t : S2048x1024.Idx → EReal) (ix2 k n) = argW m c (ix3 0 k (col ⟨j.val * 1024 + n.val, by omega⟩)) := by
  obtain ⟨-, -, -, -, ⟨h0, h1⟩, -⟩ := idx_facts t
  rw [← V12 m c]
  unfold iblk
  rw [View.read_apply]
  show V m c main_v12 _ = _
  congr 1
  funext a
  apply Fin.ext
  match a with
  | ⟨0, _⟩ => show win0_4.index t 0 * 2048 + 1 * k.val = k.val; rw [h0]; omega
  | ⟨1, _⟩ => show win0_4.index t 1 * 1024 + 1 * n.val = j.val * 1024 + n.val; rw [h1]; omega

include hj in
/-- The window of the bias. -/
theorem blk5 (n : Fin 1024) :
    (iblk m c 5 t : S1x1024.Idx → EReal) (ix2 0 n) = argB m c (ix2 0 (col ⟨j.val * 1024 + n.val, by omega⟩)) := by
  obtain ⟨-, -, -, -, -, ⟨h0, h1⟩, -⟩ := idx_facts t
  rw [← V30 m c]
  unfold iblk
  rw [View.read_apply]
  show V m c main_v30 _ = _
  congr 1
  funext a
  apply Fin.ext
  match a with
  | ⟨0, _⟩ => show win0_5.index t 0 * 1 + 1 * 0 = 0; rw [h0]
  | ⟨1, _⟩ => show win0_5.index t 1 * 1024 + 1 * n.val = j.val * 1024 + n.val; rw [h1]; omega

end Cert.InProj

end
-- ==== Proof.InRef.lean ====
/-
  The reference of the input projection at one element.
-/
module

public import proofs.«01_k».proof.Proof.InSpec
public import proofs.«01_k».proof.Proof.Gen.Reference2Ideal.Read
public import Idealize.ShloMosaic.Lib.Pipeline.Value

@[expose] public section

set_option maxRecDepth 16384

noncomputable section

namespace Cert.InProj

open Cert.Reference2Ideal Cert.Reference2Ideal.Read
open Idealize.ShloMosaic Idealize.ShloMosaic.TcCoe

variable (X : SX.Idx → EReal) (C : SC.Idx → EReal) (M : SM.Idx → EReal) (N : SN.Idx → EReal) (W : SW.Idx → EReal)
    (B : SB.Idx → EReal)

/-- The reference's latent rows before the projection. -/
theorem ref_lat (b : Fin 2) (r : Fin 8192) (k : Fin 2048) :
    val_main_v35 (F := Ideal) X M N (ix3 b r k) = lhs X C M N b ⟨r.val, by omega⟩ k := by
  unfold lhs rms xall mrow
  simp only [dif_pos r.isLt, if_pos r.isLt]
  pointwise [val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v3, val_main_v2, val_main_v1, val_main_v0, val_main_cst, val_main_cst_0,
    val_main_cst_1, val_main_cst_2]

/-- The reference's context rows before the projection. -/
theorem ref_ctx (b : Fin 2) (r : Fin 256) (k : Fin 2048) :
    val_main_v57 (F := Ideal) C M N (ix3 b r k) = lhs X C M N b ⟨8192 + r.val, by omega⟩ k := by
  have h : ¬(8192 + r.val < 8192) := by omega
  unfold lhs rms xall mrow
  simp only [dif_neg h, if_neg h, Nat.add_sub_cancel_left]
  pointwise [val_main_v57, val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_v39, val_main_v38, val_main_v37, val_main_v36, val_main_v11, val_main_v10, val_main_v9,
    val_main_v8, val_main_cst_3, val_main_cst_4, val_main_cst_5, val_main_cst_6]

theorem ref_proj_lat (b : Fin 2) (r : Fin 8192) (n : Fin 11296) :
    val_main_v63 (F := Ideal) X M N W B (ix3 b r n)
      = ∑ k : Fin 2048, val_main_v35 (F := Ideal) X M N (ix3 b r k) * W (ix3 0 k n) + B (ix2 0 n) := by
  unfold val_main_v63 val_main_v59
  generalize val_main_v35 (F := Ideal) X M N = y
  pointwise [val_main_v62, val_main_v61, val_main_v60, val_main_v58]

theorem ref_proj_ctx (b : Fin 2) (r : Fin 256) (n : Fin 11296) :
    val_main_v69 (F := Ideal) C M N W B (ix3 b r n)
      = ∑ k : Fin 2048, val_main_v57 (F := Ideal) C M N (ix3 b r k) * W (ix3 0 k n) + B (ix2 0 n) := by
  unfold val_main_v69 val_main_v65
  generalize val_main_v57 (F := Ideal) C M N = y
  pointwise [val_main_v68, val_main_v67, val_main_v66, val_main_v64]

/-- All rows and all columns of the reference's projection. -/
theorem ref_all (b : Fin 2) (r : Fin 8448) (n : Fin 11296) :
    val_main_v70 (F := Ideal) X C M N W B (ix3 b r n)
      = ∑ k : Fin 2048, lhs X C M N b r k * W (ix3 0 k n) + B (ix2 0 n) := by
  unfold val_main_v70
  by_cases h : r.val < 8192
  · refine (concatenate_pair_apply_left (s₁ := S2x8192x11296) (s₂ := S2x256x11296) (t := S2x8448x11296) 1 _ _ _ (ix3 b r n) rfl
      (ix3 b (⟨r.val, h⟩ : Fin 8192) n) (fun a => by
        match a with | ⟨0, _⟩ => rfl | ⟨1, _⟩ => rfl | ⟨2, _⟩ => rfl)).trans ?_
    rw [ref_proj_lat]
    simp only [ref_lat X C]
  · refine (concatenate_pair_apply_right (s₁ := S2x8192x11296) (s₂ := S2x256x11296) (t := S2x8448x11296) 1 _ _ _ (ix3 b r n) rfl rfl
      (ix3 b (⟨r.val - 8192, by omega⟩ : Fin 256) n) (fun a => by
        match a with
        | ⟨0, _⟩ => exact fun _ => rfl
        | ⟨1, _⟩ => exact fun h => absurd rfl h
        | ⟨2, _⟩ => exact fun _ => rfl) (by show r.val - 8192 + 8192 = r.val; omega)).trans ?_
    rw [ref_proj_ctx]
    simp only [ref_ctx X C]
    have e : (⟨8192 + (r.val - 8192), by omega⟩ : Fin 8448) = r := Fin.ext (by show 8192 + (r.val - 8192) = r.val; omega)
    rw [e]

/-- The reference's result is `G`. -/
theorem ref_eq (b : Fin 2) (r : Fin 8448) (n : Fin 11264) :
    val_main_v74 (F := Ideal) X C M N W B (ix3 b r n) = G X C M N W B b r n := by
  unfold G col
  rw [val_main_v74_apply, ← ref_all]
  show val_main_v73 (F := Ideal) X C M N W B (ix3 b r n) = _
  unfold val_main_v73
  by_cases h : n.val < 4096
  · refine (concatenate_pair_apply_left (s₁ := S2x8448x4096) (s₂ := S2x8448x7168) (t := S2x8448x11264) 2 _ _ _ (ix3 b r n) rfl
      (ix3 b r (⟨n.val, h⟩ : Fin 4096)) (fun a => by
        match a with | ⟨0, _⟩ => rfl | ⟨1, _⟩ => rfl | ⟨2, _⟩ => rfl)).trans ?_
    rw [if_pos h, val_main_v71_apply]
    congr 1
    exact funext fun a => Fin.ext (by
      match a with | ⟨0, _⟩ => rfl | ⟨1, _⟩ => rfl | ⟨2, _⟩ => rfl)
  · refine (concatenate_pair_apply_right (s₁ := S2x8448x4096) (s₂ := S2x8448x7168) (t := S2x8448x11264) 2 _ _ _ (ix3 b r n) rfl rfl
      (ix3 b r (⟨n.val - 4096, by omega⟩ : Fin 7168)) (fun a => by
        match a with
        | ⟨0, _⟩ => exact fun _ => Eq.refl b.val
        | ⟨1, _⟩ => exact fun _ => Eq.refl r.val
        | ⟨2, _⟩ => exact fun h => absurd rfl h) (by show n.val - 4096 + 4096 = n.val; omega)).trans ?_
    rw [if_neg h, val_main_v72_apply]
    congr 1
    exact funext fun a => Fin.ext (by
      match a with
      | ⟨0, _⟩ => exact Eq.refl b.val
      | ⟨1, _⟩ => exact Eq.refl r.val
      | ⟨2, _⟩ => show 4128 + (n.val - 4096) = n.val + 32; omega)

end Cert.InProj

end
-- ==== Proof.InProj.lean ====
/-
  The input projection: the rows kept along a run of grid points, what the result array holds, and that the reference
  holds the same.
-/
module

public import proofs.«01_k».proof.Proof.InBlocks
public import proofs.«01_k».proof.Proof.InRef
public import proofs.«01_k».proof.Proof.Gen.Kernel2Ideal.Value
public import proofs.«01_k».proof.Defs
public import Idealize.ShloMosaic.Lib.Claim

@[expose] public section

set_option maxRecDepth 16384

noncomputable section

namespace Cert.InProj

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The rows of tile `i` of batch `b`, normalised and modulated. -/
def tile (b : Fin 2) (i : Fin 11) : Vec Ideal S768x2048 .bf16 := fun z =>
  lhs (argX m c) (argC m c) (argM m c) (argN m c) b
    ⟨i.val * 768 + (z 0).val, by have h : (z 0).val < 768 := (z 0).isLt; omega⟩ (z 1)

/-- The rows a point keeps are those of its tile. -/
theorem kept_eq (t : Fin cfg0.N) (b : Fin 2) (i : Fin 11) (hb : b.val = t.val / 121) (hi : i.val = t.val / 11 % 11) :
    kept (BitVec.ofNat 32 (grid0.coords t 1).val) (iblk m c 0 t) (iblk m c 1 t) (iblk m c 2 t) (iblk m c 3 t) = tile m c b i := by
  obtain ⟨-, -, -, -, -, -, -, hc⟩ := idx_facts t
  funext z
  obtain ⟨r, k, rfl⟩ : ∃ (r : Fin 768) (k : Fin 2048), z = ix2 r k := ⟨z 0, z 1, eq_ix2 z⟩
  rw [hc, ← hi, kept_apply, blk2 m c t b i 0 hb, blk3 m c t b i 0 hb]
  show _ = lhs _ _ _ _ b ⟨i.val * 768 + r.val, _⟩ k
  unfold lhs mrow rms
  rw [blk1 m c t]
  simp only [blk0 m c t b i 0 hb hi]
  split_ifs <;> first | rfl | contradiction

/-- The rows kept after a point are those of its tile. -/
theorem held (b : Fin 2) (i : Fin 11) : ∀ (j : ℕ) (_ : j < 11) (t : Fin cfg0.N) (_ : t.val = (b.val * 11 + i.val) * 11 + j),
    (outsAt0 m c t.val t.isLt).2 = tile m c b i
  | 0, _, t, ht => by
    rw [outsAt0_A m c t (by omega)]
    dsimp only
    rw [A_kept]
    exact kept_eq m c t b i (by omega) (by omega)
  | j + 1, hj, t, ht => by
    have ih := held b i j (by omega) ⟨t.val - 1, Nat.lt_of_le_of_lt (Nat.sub_le _ _) t.isLt⟩ (by show t.val - 1 = _; omega)
    rw [outsAt0_B m c t (by omega)]
    exact ih

/-- What a point stores. -/
theorem stored (t : Fin cfg0.N) (b : Fin 2) (i j : Fin 11) (ht : t.val = (b.val * 11 + i.val) * 11 + j.val)
    (r : Fin 768) (n : Fin 1024) :
    ((outsAt0 m c t.val t.isLt).1 : S1x768x1024.Idx → EReal) (ix3 0 r n)
      = G (argX m c) (argC m c) (argM m c) (argN m c) (argW m c) (argB m c) b ⟨i.val * 768 + r.val, by omega⟩
          ⟨j.val * 1024 + n.val, by omega⟩ := by
  have e : (outsAt0 m c t.val t.isLt).1 = k0_pay2 (tile m c b i) (iblk m c 4 t) (iblk m c 5 t) := by
    by_cases h : t.val % 11 = 0
    · rw [outsAt0_A m c t h]
      dsimp only
      rw [A_out, kept_eq m c t b i (by omega) (by omega)]
    · have ih := held m c b i (j.val - 1) (by omega) ⟨t.val - 1, Nat.lt_of_le_of_lt (Nat.sub_le _ _) t.isLt⟩
        (by show t.val - 1 = _; omega)
      rw [outsAt0_B m c t h]
      dsimp only
      rw [B_out]
      exact congrArg (k0_pay2 · (iblk m c 4 t) (iblk m c 5 t)) ih
  rw [e, prod_apply, blk5 m c t b i j (by omega)]
  unfold G
  refine congrArg (· + argB m c (ix2 0 (col ⟨j.val * 1024 + n.val, by omega⟩))) (Finset.sum_congr rfl fun k _ => ?_)
  rw [blk4 m c t b i j (by omega)]
  rfl

/-- The result array: `G` of the arguments at every index. -/
def result (c : Dev nD) : S2x8448x11264.Idx → EReal := fun i =>
  G (argX m c) (argC m c) (argM m c) (argN m c) (argW m c) (argB m c) (i 0) (i 1) (i 2)

/-- Each grid point writes back its block of the result array. -/
theorem flushed_eq (c : Dev nD) (t : Fin cfg0.N) :
    (dats m 0 c).flushed 6 t = ((cfg0.win 6).blk t).view.read (Elt Ideal) (result m c) := by
  have hN : t.val < 242 := t.isLt
  obtain ⟨-, -, -, -, -, -, ⟨h0, h1, h2⟩, -⟩ := idx_facts t
  rw [Cert.Kernel2Ideal.Value.flushed6]
  funext j
  rw [View.read_apply]
  show (outsAt0 m c t.val t.isLt).1 j = result m c (((cfg0.win 6).blk t).view.emb j)
  have hj : ∃ (r : Fin 768) (n : Fin 1024), (j : S1x768x1024.Idx) = ix3 0 r n :=
    ⟨j 1, j 2, by rw [eq_ix3 (j : S1x768x1024.Idx)]; congr 1; exact Subsingleton.elim _ _⟩
  obtain ⟨r, n, rfl⟩ := hj
  have he : ((cfg0.win 6).blk t).view.emb (ix3 0 r n : S1x768x1024.Idx)
      = (ix3 ⟨t.val / 121, by omega⟩ ⟨t.val / 11 % 11 * 768 + r.val, by omega⟩ ⟨t.val % 11 * 1024 + n.val, by omega⟩
          : S2x8448x11264.Idx) := by
    funext a
    apply Fin.ext
    match a with
    | ⟨0, _⟩ => show win0_6.index t 0 * 1 + 1 * 0 = t.val / 121; rw [h0]; omega
    | ⟨1, _⟩ => show win0_6.index t 1 * 768 + 1 * r.val = _; rw [h1]; show _ = t.val / 11 % 11 * 768 + r.val; omega
    | ⟨2, _⟩ => show win0_6.index t 2 * 1024 + 1 * n.val = _; rw [h2]; show _ = t.val % 11 * 1024 + n.val; omega
  rw [he]
  exact stored m c t ⟨t.val / 121, by omega⟩ ⟨t.val / 11 % 11, by omega⟩ ⟨t.val % 11, by omega⟩
    (by show t.val = (t.val / 121 * 11 + t.val / 11 % 11) * 11 + t.val % 11; omega) r n

/-- After the run the result array is `result`: every index lies in the block of one grid point. -/
theorem final (c : Dev nD) : (dats m 0 c).arrAt 6 cfg0.N = result m c :=
  (dats m 0 c).arrAt_eq_of_cover 6 (result m c) (fun t _ => flushed_eq m c t) fun (i : S2x8448x11264.Idx) => by
    have h0 : (i 0 : Nat) < 2 := (i 0).isLt
    have h1 : (i 1 : Nat) < 8448 := (i 1).isLt
    have h2 : (i 2 : Nat) < 11264 := (i 2).isLt
    have hN : ((i 0 : Nat) * 11 + (i 1 : Nat) / 768) * 11 + (i 2 : Nat) / 1024 < 242 := by omega
    refine ⟨⟨((i 0 : Nat) * 11 + (i 1 : Nat) / 768) * 11 + (i 2 : Nat) / 1024, hN⟩, flush0_6 _, ?_⟩
    obtain ⟨-, -, -, -, -, -, ⟨e0, e1, e2⟩, -⟩ :=
      idx_facts ⟨((i 0 : Nat) * 11 + (i 1 : Nat) / 768) * 11 + (i 2 : Nat) / 1024, hN⟩
    show i ∈ ((View.whole main_v31).slice
      (win0_6.rect ⟨((i 0 : Nat) * 11 + (i 1 : Nat) / 768) * 11 + (i 2 : Nat) / 1024, hN⟩)).set
    rw [View.set_slice_whole, Rect.mem_set_unit]
    intro a
    match a with
    | ⟨0, _⟩ => show win0_6.index _ 0 * 1 ≤ (i 0 : Nat) ∧ (i 0 : Nat) < win0_6.index _ 0 * 1 + 1
                rw [e0]; dsimp only; omega
    | ⟨1, _⟩ => show win0_6.index _ 1 * 768 ≤ (i 1 : Nat) ∧ (i 1 : Nat) < win0_6.index _ 1 * 768 + 768
                rw [e1]; dsimp only; omega
    | ⟨2, _⟩ => show win0_6.index _ 2 * 1024 ≤ (i 2 : Nat) ∧ (i 2 : Nat) < win0_6.index _ 2 * 1024 + 1024
                rw [e2]; dsimp only; omega

/-- From memories that agree on the arguments, kernel and reference end with the same result. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    rw [final]
    funext i
    obtain ⟨b, r, n, rfl⟩ : ∃ (b : Fin 2) (r : Fin 8448) (n : Fin 11264), i = ix3 b r n := ⟨i 0, i 1, i 2, eq_ix3 i⟩
    rw [Cert.Reference2Ideal.Read.val_main_v74_eq]
    rw [(hagree c).1, (hagree c).2.1, (hagree c).2.2.1, (hagree c).2.2.2.1, (hagree c).2.2.2.2.1, (hagree c).2.2.2.2.2]
    exact ref_eq _ _ _ _ _ _ b r n

end Cert.InProj

end
-- ==== Proof.MergeSpec.lean ====
/-
  The merge of the two branches at one element.
-/
module

public import Idealize.ShloMosaic.Lib.Pointwise

@[expose] public section

noncomputable section

namespace Cert.Merge

open Idealize.ShloMosaic

abbrev SH : Shape := ⟨3, ![2, 8192, 1024]⟩
abbrev SP : Shape := ⟨3, ![2, 8448, 11264]⟩
abbrev SN : Shape := ⟨3, ![1, 8, 128]⟩
abbrev SW : Shape := ⟨3, ![1, 1024, 2048]⟩

/-- The normalisation of one head's 128 lanes, its weights, and the gate before it. -/
def gated (s : Fin 128 → EReal) (z : EReal) (w : Fin 128 → EReal) (l : Fin 128) : EReal :=
  Ideal.logistic z
    * (s l * Ideal.rsqrt (Ideal.div (∑ y, s y * s y) (Ideal.ofBits .f32 0x43000000#32) + Ideal.ofBits .f32 0x358637BD#32) * w l)

/-- The first branch's row before its projection, at lane `l` of head `e`. -/
def ym (Hf Hb : SH.Idx → EReal) (P : SP.Idx → EReal) (N : SN.Idx → EReal) (b : Fin 2) (r : Fin 8192) (k : Fin 1024) : EReal :=
  gated (fun y => Hf (ix3 b r ⟨k.val / 128 * 128 + y.val, by omega⟩) + Hb (ix3 b r ⟨k.val / 128 * 128 + y.val, by omega⟩))
    (P (ix3 b ⟨r.val, by omega⟩ ⟨3072 + k.val, by omega⟩))
    (fun y => N (ix3 0 ⟨k.val / 128, by omega⟩ y)) ⟨k.val % 128, by omega⟩

/-- One element of the result. -/
def G (Hf Hb : SH.Idx → EReal) (P : SP.Idx → EReal) (N : SN.Idx → EReal) (Y : SH.Idx → EReal) (Wa Wb : SW.Idx → EReal)
    (b : Fin 2) (r : Fin 8192) (n : Fin 2048) : EReal :=
  Ideal.logistic (P (ix3 b ⟨r.val, by omega⟩ ⟨7168 + n.val, by omega⟩))
      * ∑ k : Fin 1024, ym Hf Hb P N b r k * Wa (ix3 0 k n)
    + Ideal.logistic (P (ix3 b ⟨r.val, by omega⟩ ⟨9216 + n.val, by omega⟩))
      * ∑ k : Fin 1024, Y (ix3 b r k) * Wb (ix3 0 k n)

end Cert.Merge

end
-- ==== Proof.MergeStep.lean ====
/-
  What one grid point of the merge keeps and stores: the first branch's rows, normalised head by head and gated, and the
  gated sum of the two projections.
-/
module

public import proofs.«01_k».proof.Proof.Gen.Kernel3Ideal.Frame
public import proofs.«01_k».proof.Proof.MergeSpec
public import Idealize.ShloMosaic.Lib.Pipeline.ValueKit

@[expose] public section

set_option maxRecDepth 16384

noncomputable section

namespace Cert.Merge

open Cert.Kernel3Ideal Cert.Kernel3Ideal.Gen
open Idealize.ShloMosaic Idealize.ShloMosaic.TcCoe Idealize.ShloMosaic.Tactic Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

/-- Storing 128 columns from column `o` on gives what was stored at a column among them. -/
theorem canon_hit (o : ℕ) (ho : o + 128 ≤ 1024) (inb : _) (p : Vec Ideal S512x128 .bf16)
    (L : List (View.Piece (Elt Ideal) S512x1024 .bf16)) (r : Fin 512) (l : Fin 128) :
    View.canon (⟨Rect.unit (s := S512x1024) ![0, o] ![512, 128] inb, p⟩ :: L) (ix2 r (⟨o + l.val, by omega⟩ : Fin 1024))
      = p (ix2 r l) := by
  rw [show (ix2 r (⟨o + l.val, by omega⟩ : Fin 1024) : S512x1024.Idx)
        = (Rect.unit (s := S512x1024) ![0, o] ![512, 128] inb).emb (ix2 r l) from
      funext fun a => Fin.ext (by
        match a with
        | ⟨0, _⟩ => show r.val = 0 + 1 * r.val; omega
        | ⟨1, _⟩ => show o + l.val = o + 1 * l.val; omega)]
  exact View.canon_cons_emb ..

/-- … and what was there before at any other column. -/
theorem canon_miss (o : ℕ) (inb : _) (p : Vec Ideal S512x128 .bf16) (L : List (View.Piece (Elt Ideal) S512x1024 .bf16))
    (r : Fin 512) (k : Fin 1024) (h : k.val < o) :
    View.canon (⟨Rect.unit (s := S512x1024) ![0, o] ![512, 128] inb, p⟩ :: L) (ix2 r k) = View.canon L (ix2 r k) := by
  apply View.canon_cons_of_not_mem
  rw [Rect.mem_set_unit]
  intro hm
  have h1 : o ≤ k.val := (hm 1).1
  omega

variable (x0 x1 : Vec Ideal S1x512x1024 .f32) (x2 : Vec Ideal S1x512x1024 .bf16) (x3 : Vec Ideal S1x1024 .f32)

/-- The block's rows, normalised head by head and gated. -/
def kept : Vec Ideal S512x1024 .bf16 := fun z =>
  have h : (z 1).val < 1024 := (z 1).isLt
  gated (fun y => x0 (ix3 0 (z 0) ⟨(z 1).val / 128 * 128 + y.val, by omega⟩)
      + x1 (ix3 0 (z 0) ⟨(z 1).val / 128 * 128 + y.val, by omega⟩))
    (x2 (ix3 0 (z 0) (z 1))) (fun y => x3 (ix2 0 ⟨(z 1).val / 128 * 128 + y.val, by omega⟩)) ⟨(z 1).val % 128, by omega⟩

/-- A kept element. -/
theorem kept_apply (r : Fin 512) (k : Fin 1024) :
    kept x0 x1 x2 x3 (ix2 r k)
      = gated (fun y => x0 (ix3 0 r ⟨k.val / 128 * 128 + y.val, by omega⟩)
            + x1 (ix3 0 r ⟨k.val / 128 * 128 + y.val, by omega⟩))
          (x2 (ix3 0 r k)) (fun y => x3 (ix2 0 ⟨k.val / 128 * 128 + y.val, by omega⟩)) ⟨k.val % 128, by omega⟩ := rfl

/-- A kept element at lane `l` of the head that starts at column `o`. -/
theorem kept_at (o : ℕ) (ho : o + 128 ≤ 1024) (hd : o % 128 = 0) (r : Fin 512) (l : Fin 128) :
    kept x0 x1 x2 x3 (ix2 r (⟨o + l.val, by omega⟩ : Fin 1024))
      = gated (fun y => x0 (ix3 0 r ⟨o + y.val, by omega⟩) + x1 (ix3 0 r ⟨o + y.val, by omega⟩))
          (x2 (ix3 0 r ⟨o + l.val, by omega⟩)) (fun y => x3 (ix2 0 ⟨o + y.val, by omega⟩)) l := by
  have e : (o + l.val) / 128 * 128 = o := by omega
  have e' : (o + l.val) % 128 = l.val := by omega
  show gated (fun y => x0 (ix3 0 r ⟨(o + l.val) / 128 * 128 + y.val, _⟩) + x1 (ix3 0 r ⟨(o + l.val) / 128 * 128 + y.val, _⟩)) _
    (fun y => x3 (ix2 0 ⟨(o + l.val) / 128 * 128 + y.val, _⟩)) ⟨(o + l.val) % 128, _⟩ = _
  simp only [e, e']
  rfl

/-- Lanes `o .. o+127` of the weights. -/
theorem ld_w (o : ℕ) (ho : o + 128 ≤ 1024) (inb : _) (y : Fin 128) :
    View.ld x3 (Rect.unit (s := S1x1024) ![0, o] ![1, 128] inb) (ix2 0 y) = x3 (ix2 0 ⟨o + y.val, by omega⟩) :=
  congrArg x3 (funext fun a => Fin.ext (by
    match a with
    | ⟨0, _⟩ => rfl
    | ⟨1, _⟩ => show o + 1 * y.val = o + y.val; omega))

variable (w : Vec Ideal S1x128 .f32) (r : Fin 512) (l : Fin 128)

theorem piece0 : k0_pay5 x0 x1 x2 w (ix2 r l)
    = gated (fun y => x0 (ix3 0 r ⟨0 + y.val, by omega⟩) + x1 (ix3 0 r ⟨0 + y.val, by omega⟩)) (x2 (ix3 0 r ⟨0 + l.val, by omega⟩))
        (fun y => w (ix2 0 y)) l := by
  pointwise [k0_pay5, k0_pay3, k0_pay4, gated]
theorem piece1 : k0_pay8 (k0_pay4 x2) (k0_pay6 x0 x1) (k0_pay7 x0 x1) w (ix2 r l)
    = gated (fun y => x0 (ix3 0 r ⟨128 + y.val, by omega⟩) + x1 (ix3 0 r ⟨128 + y.val, by omega⟩))
        (x2 (ix3 0 r ⟨128 + l.val, by omega⟩)) (fun y => w (ix2 0 y)) l := by
  pointwise [k0_pay8, k0_pay3, k0_pay4, k0_pay6, k0_pay7, gated]
theorem piece2 : k0_pay9 (k0_pay3 x0 x1) (k0_pay4 x2) w (ix2 r l)
    = gated (fun y => x0 (ix3 0 r ⟨256 + y.val, by omega⟩) + x1 (ix3 0 r ⟨256 + y.val, by omega⟩))
        (x2 (ix3 0 r ⟨256 + l.val, by omega⟩)) (fun y => w (ix2 0 y)) l := by
  pointwise [k0_pay9, k0_pay3, k0_pay4, gated]
theorem piece3 : k0_pay12 (k0_pay4 x2) (k0_pay10 (k0_pay3 x0 x1)) (k0_pay11 (k0_pay3 x0 x1)) w (ix2 r l)
    = gated (fun y => x0 (ix3 0 r ⟨384 + y.val, by omega⟩) + x1 (ix3 0 r ⟨384 + y.val, by omega⟩))
        (x2 (ix3 0 r ⟨384 + l.val, by omega⟩)) (fun y => w (ix2 0 y)) l := by
  pointwise [k0_pay12, k0_pay10, k0_pay11, k0_pay3, k0_pay4, gated]
theorem piece4 : k0_pay13 (k0_pay3 x0 x1) (k0_pay4 x2) w (ix2 r l)
    = gated (fun y => x0 (ix3 0 r ⟨512 + y.val, by omega⟩) + x1 (ix3 0 r ⟨512 + y.val, by omega⟩))
        (x2 (ix3 0 r ⟨512 + l.val, by omega⟩)) (fun y => w (ix2 0 y)) l := by
  pointwise [k0_pay13, k0_pay3, k0_pay4, gated]
theorem piece5 : k0_pay16 (k0_pay4 x2) (k0_pay14 (k0_pay3 x0 x1)) (k0_pay15 (k0_pay3 x0 x1)) w (ix2 r l)
    = gated (fun y => x0 (ix3 0 r ⟨640 + y.val, by omega⟩) + x1 (ix3 0 r ⟨640 + y.val, by omega⟩))
        (x2 (ix3 0 r ⟨640 + l.val, by omega⟩)) (fun y => w (ix2 0 y)) l := by
  pointwise [k0_pay16, k0_pay14, k0_pay15, k0_pay3, k0_pay4, gated]
theorem piece6 : k0_pay17 (k0_pay3 x0 x1) (k0_pay4 x2) w (ix2 r l)
    = gated (fun y => x0 (ix3 0 r ⟨768 + y.val, by omega⟩) + x1 (ix3 0 r ⟨768 + y.val, by omega⟩))
        (x2 (ix3 0 r ⟨768 + l.val, by omega⟩)) (fun y => w (ix2 0 y)) l := by
  pointwise [k0_pay17, k0_pay3, k0_pay4, gated]
theorem piece7 : k0_pay1 (k0_pay4 x2) (k0_pay18 (k0_pay3 x0 x1)) (k0_pay19 (k0_pay3 x0 x1)) w (ix2 r l)
    = gated (fun y => x0 (ix3 0 r ⟨896 + y.val, by omega⟩) + x1 (ix3 0 r ⟨896 + y.val, by omega⟩))
        (x2 (ix3 0 r ⟨896 + l.val, by omega⟩)) (fun y => w (ix2 0 y)) l := by
  pointwise [k0_pay1, k0_pay18, k0_pay19, k0_pay3, k0_pay4, gated]

/-- A column among the 128 from `o` on. -/
theorem lane (o : ℕ) (ho : o + 128 ≤ 1024) (k : Fin 1024) (h : o ≤ k.val) (h' : k.val < o + 128) :
    ∃ l : Fin 128, k = ⟨o + l.val, Nat.lt_of_lt_of_le (Nat.add_lt_add_left l.isLt o) ho⟩ :=
  ⟨⟨k.val - o, by omega⟩, Fin.ext (by show k.val = o + (k.val - o); omega)⟩

/-- Eight stores of 128 columns each fill the buffer: it is the one whose columns they are. -/
theorem canon_eq (X : Vec Ideal S512x1024 .bf16) (p0 p1 p2 p3 p4 p5 p6 p7 : Vec Ideal S512x128 .bf16)
    (i0 : _) (i1 : _) (i2 : _) (i3 : _) (i4 : _) (i5 : _) (i6 : _) (i7 : _)
    (e0 : ∀ (r : Fin 512) (l : Fin 128), p0 (ix2 r l) = X (ix2 r (⟨0 + l.val, by omega⟩ : Fin 1024)))
    (e1 : ∀ (r : Fin 512) (l : Fin 128), p1 (ix2 r l) = X (ix2 r (⟨128 + l.val, by omega⟩ : Fin 1024)))
    (e2 : ∀ (r : Fin 512) (l : Fin 128), p2 (ix2 r l) = X (ix2 r (⟨256 + l.val, by omega⟩ : Fin 1024)))
    (e3 : ∀ (r : Fin 512) (l : Fin 128), p3 (ix2 r l) = X (ix2 r (⟨384 + l.val, by omega⟩ : Fin 1024)))
    (e4 : ∀ (r : Fin 512) (l : Fin 128), p4 (ix2 r l) = X (ix2 r (⟨512 + l.val, by omega⟩ : Fin 1024)))
    (e5 : ∀ (r : Fin 512) (l : Fin 128), p5 (ix2 r l) = X (ix2 r (⟨640 + l.val, by omega⟩ : Fin 1024)))
    (e6 : ∀ (r : Fin 512) (l : Fin 128), p6 (ix2 r l) = X (ix2 r (⟨768 + l.val, by omega⟩ : Fin 1024)))
    (e7 : ∀ (r : Fin 512) (l : Fin 128), p7 (ix2 r l) = X (ix2 r (⟨896 + l.val, by omega⟩ : Fin 1024))) :
    View.canon ([⟨Rect.unit (s := S512x1024) ![0, 896] ![512, 128] i7, p7⟩,
      ⟨Rect.unit (s := S512x1024) ![0, 768] ![512, 128] i6, p6⟩,
      ⟨Rect.unit (s := S512x1024) ![0, 640] ![512, 128] i5, p5⟩,
      ⟨Rect.unit (s := S512x1024) ![0, 512] ![512, 128] i4, p4⟩,
      ⟨Rect.unit (s := S512x1024) ![0, 384] ![512, 128] i3, p3⟩,
      ⟨Rect.unit (s := S512x1024) ![0, 256] ![512, 128] i2, p2⟩,
      ⟨Rect.unit (s := S512x1024) ![0, 128] ![512, 128] i1, p1⟩,
      ⟨Rect.unit (s := S512x1024) ![0, 0] ![512, 128] i0, p0⟩] : List (View.Piece (Elt Ideal) S512x1024 .bf16)) = X := by
  funext z
  obtain ⟨r, k, rfl⟩ : ∃ (r : Fin 512) (k : Fin 1024), z = ix2 r k := ⟨z 0, z 1, eq_ix2 z⟩
  by_cases h7 : 896 ≤ k.val
  · obtain ⟨l, rfl⟩ := lane 896 (by norm_num) k (by omega) (by omega)
    rw [canon_hit 896 (by norm_num), e7]
  rw [canon_miss 896 _ _ _ r k (by omega)]
  by_cases h6 : 768 ≤ k.val
  · obtain ⟨l, rfl⟩ := lane 768 (by norm_num) k (by omega) (by omega)
    rw [canon_hit 768 (by norm_num), e6]
  rw [canon_miss 768 _ _ _ r k (by omega)]
  by_cases h5 : 640 ≤ k.val
  · obtain ⟨l, rfl⟩ := lane 640 (by norm_num) k (by omega) (by omega)
    rw [canon_hit 640 (by norm_num), e5]
  rw [canon_miss 640 _ _ _ r k (by omega)]
  by_cases h4 : 512 ≤ k.val
  · obtain ⟨l, rfl⟩ := lane 512 (by norm_num) k (by omega) (by omega)
    rw [canon_hit 512 (by norm_num), e4]
  rw [canon_miss 512 _ _ _ r k (by omega)]
  by_cases h3 : 384 ≤ k.val
  · obtain ⟨l, rfl⟩ := lane 384 (by norm_num) k (by omega) (by omega)
    rw [canon_hit 384 (by norm_num), e3]
  rw [canon_miss 384 _ _ _ r k (by omega)]
  by_cases h2 : 256 ≤ k.val
  · obtain ⟨l, rfl⟩ := lane 256 (by norm_num) k (by omega) (by omega)
    rw [canon_hit 256 (by norm_num), e2]
  rw [canon_miss 256 _ _ _ r k (by omega)]
  by_cases h1 : 128 ≤ k.val
  · obtain ⟨l, rfl⟩ := lane 128 (by norm_num) k (by omega) (by omega)
    rw [canon_hit 128 (by norm_num), e1]
  rw [canon_miss 128 _ _ _ r k (by omega)]
  obtain ⟨l, rfl⟩ := lane 0 (by norm_num) k (by omega) (by omega)
  rw [canon_hit 0 (by norm_num), e0]

/-- The eight stores of a point of column tile 0 leave its rows. -/
theorem stores (i0 : _) (i1 : _) (i2 : _) (i3 : _) (i4 : _) (i5 : _) (i6 : _) (i7 : _)
    (w0 : _) (w1 : _) (w2 : _) (w3 : _) (w4 : _) (w5 : _) (w6 : _) (w7 : _) :
    View.canon ([⟨Rect.unit (s := S512x1024) ![0, 896] ![512, 128] i7,
        k0_pay1 (k0_pay4 x2) (k0_pay18 (k0_pay3 x0 x1)) (k0_pay19 (k0_pay3 x0 x1)) (View.ld x3 (Rect.unit (s := S1x1024) ![0, 896] ![1, 128] w7))⟩,
      ⟨Rect.unit (s := S512x1024) ![0, 768] ![512, 128] i6,
        k0_pay17 (k0_pay3 x0 x1) (k0_pay4 x2) (View.ld x3 (Rect.unit (s := S1x1024) ![0, 768] ![1, 128] w6))⟩,
      ⟨Rect.unit (s := S512x1024) ![0, 640] ![512, 128] i5,
        k0_pay16 (k0_pay4 x2) (k0_pay14 (k0_pay3 x0 x1)) (k0_pay15 (k0_pay3 x0 x1)) (View.ld x3 (Rect.unit (s := S1x1024) ![0, 640] ![1, 128] w5))⟩,
      ⟨Rect.unit (s := S512x1024) ![0, 512] ![512, 128] i4,
        k0_pay13 (k0_pay3 x0 x1) (k0_pay4 x2) (View.ld x3 (Rect.unit (s := S1x1024) ![0, 512] ![1, 128] w4))⟩,
      ⟨Rect.unit (s := S512x1024) ![0, 384] ![512, 128] i3,
        k0_pay12 (k0_pay4 x2) (k0_pay10 (k0_pay3 x0 x1)) (k0_pay11 (k0_pay3 x0 x1)) (View.ld x3 (Rect.unit (s := S1x1024) ![0, 384] ![1, 128] w3))⟩,
      ⟨Rect.unit (s := S512x1024) ![0, 256] ![512, 128] i2,
        k0_pay9 (k0_pay3 x0 x1) (k0_pay4 x2) (View.ld x3 (Rect.unit (s := S1x1024) ![0, 256] ![1, 128] w2))⟩,
      ⟨Rect.unit (s := S512x1024) ![0, 128] ![512, 128] i1,
        k0_pay8 (k0_pay4 x2) (k0_pay6 x0 x1) (k0_pay7 x0 x1) (View.ld x3 (Rect.unit (s := S1x1024) ![0, 128] ![1, 128] w1))⟩,
      ⟨Rect.unit (s := S512x1024) ![0, 0] ![512, 128] i0,
        k0_pay5 x0 x1 x2 (View.ld x3 (Rect.unit (s := S1x1024) ![0, 0] ![1, 128] w0))⟩] : List (View.Piece (Elt Ideal) S512x1024 .bf16))
      = kept x0 x1 x2 x3 := by
  apply canon_eq <;> intro r l
  · rw [piece0, kept_at x0 x1 x2 x3 0 (by norm_num) (by norm_num)]
    simp only [ld_w x3 0 (by norm_num)]
  · rw [piece1, kept_at x0 x1 x2 x3 128 (by norm_num) (by norm_num)]
    simp only [ld_w x3 128 (by norm_num)]
  · rw [piece2, kept_at x0 x1 x2 x3 256 (by norm_num) (by norm_num)]
    simp only [ld_w x3 256 (by norm_num)]
  · rw [piece3, kept_at x0 x1 x2 x3 384 (by norm_num) (by norm_num)]
    simp only [ld_w x3 384 (by norm_num)]
  · rw [piece4, kept_at x0 x1 x2 x3 512 (by norm_num) (by norm_num)]
    simp only [ld_w x3 512 (by norm_num)]
  · rw [piece5, kept_at x0 x1 x2 x3 640 (by norm_num) (by norm_num)]
    simp only [ld_w x3 640 (by norm_num)]
  · rw [piece6, kept_at x0 x1 x2 x3 768 (by norm_num) (by norm_num)]
    simp only [ld_w x3 768 (by norm_num)]
  · rw [piece7, kept_at x0 x1 x2 x3 896 (by norm_num) (by norm_num)]
    simp only [ld_w x3 896 (by norm_num)]

/-- Reading the kept rows through the rectangle of all of them gives them. -/
theorem idx_whole (X : Vec Ideal S512x1024 .bf16) :
    (fun j => X ((Rect.unit (s := S512x1024) ![0, 0] ![512, 1024] inb_S512x1024_S512x1024_0_0).toLoadRect.idx j)) = X :=
  View.ld_unit_zero (S := S512x1024) hz2 inb_S512x1024_S512x1024_0_0 X

variable (c : Dev nD) (i : grid0.Coords)
  (a3 : Memref sig .tc .vmem S1x512x1024 .f32) (h3 : a3.IsWhole)
  (a4 : Memref sig .tc .vmem S1x512x1024 .f32) (h4 : a4.IsWhole)
  (a5 : Memref sig .tc .vmem S1x512x1024 .bf16) (h5 : a5.IsWhole)
  (a6 : Memref sig .tc .vmem S1x1024 .f32) (h6 : a6.IsWhole)
  (a7 : Memref sig .tc .vmem S1x512x1024 .bf16) (h7 : a7.IsWhole)
  (a8 : Memref sig .tc .vmem S1024x512 .bf16) (h8 : a8.IsWhole)
  (a9 : Memref sig .tc .vmem S1024x512 .bf16) (h9 : a9.IsWhole)
  (a10 : Memref sig .tc .vmem S1x512x512 .bf16) (h10 : a10.IsWhole)
  (a11 : Memref sig .tc .vmem S1x512x512 .bf16) (h11 : a11.IsWhole)
  (a12 : Memref sig .tc .vmem S1x512x512 .bf16) (h12 : a12.IsWhole)
  (a13 : Memref sig .tc .vmem S512x1024 .bf16) (h13 : a13.IsWhole)
  (x4 : Vec Ideal S1x512x1024 .bf16) (x5 x6 : Vec Ideal S1024x512 .bf16) (x7 x8 : Vec Ideal S1x512x512 .bf16)
  (s : Vec Ideal S512x1024 .bf16)

/-- A point of column tile 0 keeps its rows. -/
theorem A_kept (hc0 : cond0_0 i) :
    sout0_A_0 c i a3 h3 a4 h4 a5 h5 a6 h6 a7 h7 a8 h8 a9 h9 a10 h10 a11 h11 a12 h12 a13 h13 hc0 x0 x1 x2 x3 x4 x5 x6 x7 x8
      = kept x0 x1 x2 x3 := by
  unfold sout0_A_0
  rw [View.read_writes_eq_canon _ _ _ (scover0_A_0 c i a3 h3 a4 h4 a5 h5 a6 h6 a7 h7 a8 h8 a9 h9 a10 h10 a11 h11 a12 h12 a13 h13 hc0 x0 x1 x2 x3 x4 x5 x6 x7 x8)]
  unfold kernelRun0_A
  dsimp only
  sl_unfold_words
  simp only [View.readAt_eq_ld, h3.read_unread, h4.read_unread, h5.read_unread, h6.read_unread,
    View.ld_unit_zero (S := S1x512x1024) hz3]
  exact stores x0 x1 x2 x3 _ _ _ _ _ _ _ _ _ _ _ _ _ _ _ _

/-- A point of column tile 0 stores the gated products of the rows it keeps. -/
theorem A_out (hc0 : cond0_0 i) :
    out0_A_9 c i a3 h3 a4 h4 a5 h5 a6 h6 a7 h7 a8 h8 a9 h9 a10 h10 a11 h11 a12 h12 a13 h13 hc0 x0 x1 x2 x3 x4 x5 x6 x7 x8
      = k0_pay2 (kept x0 x1 x2 x3) x5 x4 x6 x7 x8 := by
  unfold out0_A_9
  rw [View.read_writes_eq_canon _ _ _ (cover0_A_9 c i a3 h3 a4 h4 a5 h5 a6 h6 a7 h7 a8 h8 a9 h9 a10 h10 a11 h11 a12 h12 a13 h13 hc0 x0 x1 x2 x3 x4 x5 x6 x7 x8)]
  unfold kernelRun0_A
  dsimp only
  sl_unfold_words
  rw [View.canon_unit_zero (S := S1x512x512) hz3]
  simp only [View.readAt_eq_ld, h3.read_unread, h4.read_unread, h5.read_unread, h6.read_unread, h7.read_unread, h8.read_unread, h9.read_unread, h10.read_unread, h11.read_unread,
    View.ld_unit_zero (S := S1x512x1024) hz3, View.ld_unit_zero (S := S1024x512) hz2, View.ld_unit_zero (S := S1x512x512) hz3,
    View.readCov_eq_canon']
  rw [stores x0 x1 x2 x3]
  exact congrArg (k0_pay2 · x5 x4 x6 x7 x8) (idx_whole (kept x0 x1 x2 x3))

/-- Any other point stores the gated products of the rows kept before it. -/
theorem B_out (hc0 : ¬cond0_0 i) :
    out0_B_9 c i a3 h3 a4 h4 a5 h5 a6 h6 a7 h7 a8 h8 a9 h9 a10 h10 a11 h11 a12 h12 a13 h13 hc0 x0 x1 x2 x3 x4 x5 x6 x7 x8 s = k0_pay2 s x5 x4 x6 x7 x8 := by
  unfold out0_B_9
  rw [View.read_writes_eq_canon _ _ _ (cover0_B_9 c i a3 h3 a4 h4 a5 h5 a6 h6 a7 h7 a8 h8 a9 h9 a10 h10 a11 h11 a12 h12 a13 h13 hc0 x0 x1 x2 x3 x4 x5 x6 x7 x8 s)]
  unfold kernelRun0_B
  dsimp only
  sl_unfold_words
  rw [View.canon_unit_zero (S := S1x512x512) hz3]
  simp only [View.readAt_eq_ld, h3.read_unread, h4.read_unread, h5.read_unread, h6.read_unread, h7.read_unread, h8.read_unread, h9.read_unread, h10.read_unread, h11.read_unread, h13.read_unread,
    View.ld_unit_zero (S := S1x512x1024) hz3, View.ld_unit_zero (S := S1024x512) hz2, View.ld_unit_zero (S := S1x512x512) hz3,
    View.ld_unit_zero (S := S512x1024) hz2]

/-- Any other point keeps what was kept before it. -/
theorem B_kept (hc0 : ¬cond0_0 i) :
    sout0_B_0 c i a3 h3 a4 h4 a5 h5 a6 h6 a7 h7 a8 h8 a9 h9 a10 h10 a11 h11 a12 h12 a13 h13 hc0 x0 x1 x2 x3 x4 x5 x6 x7 x8 s = s := rfl

/-- A stored element. -/
theorem prod_apply (r : Fin 512) (n : Fin 512) :
    k0_pay2 s x5 x4 x6 x7 x8 (ix3 0 r n)
      = Ideal.logistic (x7 (ix3 0 r n)) * ∑ k : Fin 1024, s (ix2 r k) * x5 (ix2 k n)
        + Ideal.logistic (x8 (ix3 0 r n)) * ∑ k : Fin 1024, x4 (ix3 0 r k) * x6 (ix2 k n) := by
  pointwise [k0_pay2]

end Cert.Merge

end
-- ==== Proof.MergeBlocks.lean ====
/-
  What the windows of the merge hold at a grid point, read off the arguments.
-/
module

public import proofs.«01_k».proof.Proof.MergeStep

@[expose] public section

set_option maxRecDepth 16384

noncomputable section

namespace Cert.Merge

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The arguments as the run starts with them. -/
abbrev argHf : SH.Idx → EReal := m ((c : Thread nD τ).loc main_arg0)
abbrev argHb : SH.Idx → EReal := m ((c : Thread nD τ).loc main_arg1)
abbrev argP : SP.Idx → EReal := m ((c : Thread nD τ).loc main_arg2)
abbrev argN : SN.Idx → EReal := m ((c : Thread nD τ).loc main_arg3)
abbrev argY : SH.Idx → EReal := m ((c : Thread nD τ).loc main_arg4)
abbrev argWa : SW.Idx → EReal := m ((c : Thread nD τ).loc main_arg5)
abbrev argWb : SW.Idx → EReal := m ((c : Thread nD τ).loc main_arg6)

/-- The two branches' weights as the region starts with them. -/
theorem V2 (k : Fin 1024) (n : Fin 2048) : V m c main_v2 (ix2 k n) = argWa m c (ix3 0 k n) := by
  entry_read
  pointwise

theorem V4 (k : Fin 1024) (n : Fin 2048) : V m c main_v4 (ix2 k n) = argWb m c (ix3 0 k n) := by
  entry_read
  pointwise

/-- The norm's weights as the region starts with them: the heads side by side. -/
theorem V5 (k : Fin 1024) :
    V m c main_v5 (ix2 0 k) = argN m c (ix3 0 ⟨k.val / 128, by omega⟩ ⟨k.val % 128, by omega⟩) := by
  entry_read
  pointwise

/-- The block indices of the windows at a grid point: batch `t / 64`, row tile `t / 4 % 16`, column tile `t % 4`. -/
theorem idx_facts : ∀ t : Fin cfg0.N,
    (win0_0.index t 0 = t.val / 64 ∧ win0_0.index t 1 = t.val / 4 % 16 ∧ win0_0.index t 2 = 0)
    ∧ (win0_1.index t 0 = t.val / 64 ∧ win0_1.index t 1 = t.val / 4 % 16 ∧ win0_1.index t 2 = 0)
    ∧ (win0_2.index t 0 = t.val / 64 ∧ win0_2.index t 1 = t.val / 4 % 16 ∧ win0_2.index t 2 = 3)
    ∧ (win0_3.index t 0 = 0 ∧ win0_3.index t 1 = 0)
    ∧ (win0_4.index t 0 = t.val / 64 ∧ win0_4.index t 1 = t.val / 4 % 16 ∧ win0_4.index t 2 = 0)
    ∧ (win0_5.index t 0 = 0 ∧ win0_5.index t 1 = t.val % 4)
    ∧ (win0_6.index t 0 = 0 ∧ win0_6.index t 1 = t.val % 4)
    ∧ (win0_7.index t 0 = t.val / 64 ∧ win0_7.index t 1 = t.val / 4 % 16 ∧ win0_7.index t 2 = 14 + t.val % 4)
    ∧ (win0_8.index t 0 = t.val / 64 ∧ win0_8.index t 1 = t.val / 4 % 16 ∧ win0_8.index t 2 = 18 + t.val % 4)
    ∧ (win0_9.index t 0 = t.val / 64 ∧ win0_9.index t 1 = t.val / 4 % 16 ∧ win0_9.index t 2 = t.val % 4) :=
  (by decide +kernel : ∀ t : Fin grid0.N, _)

variable (t : Fin cfg0.N) (b : Fin 2) (i : Fin 16) (j : Fin 4)
  (hb : b.val = t.val / 64) (hi : i.val = t.val / 4 % 16) (hj : j.val = t.val % 4)

include hb hi in
/-- The window of the forward direction. -/
theorem blk0 (r : Fin 512) (k : Fin 1024) :
    (iblk m c 0 t : S1x512x1024.Idx → EReal) (ix3 0 r k)
      = argHf m c (ix3 b ⟨i.val * 512 + r.val, by omega⟩ k) := by
  obtain ⟨⟨h0, h1, h2⟩, -⟩ := idx_facts t
  unfold iblk
  rw [View.read_apply]
  show V m c main_arg0 _ = _
  rw [V_main_arg0]
  congr 1
  funext a
  apply Fin.ext
  match a with
  | ⟨0, _⟩ => show win0_0.index t 0 * 1 + 1 * 0 = b.val; rw [h0]; omega
  | ⟨1, _⟩ => show win0_0.index t 1 * 512 + 1 * r.val = i.val * 512 + r.val; rw [h1]; omega
  | ⟨2, _⟩ => show win0_0.index t 2 * 1024 + 1 * k.val = k.val; rw [h2]; omega

include hb hi in
/-- The window of the backward direction. -/
theorem blk1 (r : Fin 512) (k : Fin 1024) :
    (iblk m c 1 t : S1x512x1024.Idx → EReal) (ix3 0 r k)
      = argHb m c (ix3 b ⟨i.val * 512 + r.val, by omega⟩ k) := by
  obtain ⟨-, ⟨h0, h1, h2⟩, -⟩ := idx_facts t
  unfold iblk
  rw [View.read_apply]
  show V m c main_arg1 _ = _
  rw [V_main_arg1]
  congr 1
  funext a
  apply Fin.ext
  match a with
  | ⟨0, _⟩ => show win0_1.index t 0 * 1 + 1 * 0 = b.val; rw [h0]; omega
  | ⟨1, _⟩ => show win0_1.index t 1 * 512 + 1 * r.val = i.val * 512 + r.val; rw [h1]; omega
  | ⟨2, _⟩ => show win0_1.index t 2 * 1024 + 1 * k.val = k.val; rw [h2]; omega

include hb hi in
/-- The window of the gates of the first branch's lanes. -/
theorem blk2 (r : Fin 512) (k : Fin 1024) :
    (X0_2 m c t : S1x512x1024.Idx → EReal) (ix3 0 r k)
      = argP m c (ix3 b ⟨i.val * 512 + r.val, by omega⟩ ⟨3072 + k.val, by omega⟩) := by
  obtain ⟨-, -, ⟨h0, h1, h2⟩, -⟩ := idx_facts t
  unfold X0_2 Pipeline.Window.fill
  rw [dif_pos (moved0_2 t _)]
  unfold iblk
  rw [View.read_apply]
  show V m c main_arg2 _ = _
  rw [V_main_arg2]
  congr 1
  funext a
  apply Fin.ext
  match a with
  | ⟨0, _⟩ => show win0_2.index t 0 * 1 + 1 * 0 = b.val; rw [h0]; omega
  | ⟨1, _⟩ => show win0_2.index t 1 * 512 + 1 * r.val = i.val * 512 + r.val; rw [h1]; omega
  | ⟨2, _⟩ => show win0_2.index t 2 * 1024 + 1 * k.val = 3072 + k.val; rw [h2]; omega

/-- The window of the norm's weights. -/
theorem blk3 (k : Fin 1024) :
    (iblk m c 3 t : S1x1024.Idx → EReal) (ix2 0 k) = argN m c (ix3 0 ⟨k.val / 128, by omega⟩ ⟨k.val % 128, by omega⟩) := by
  obtain ⟨-, -, -, ⟨h0, h1⟩, -⟩ := idx_facts t
  rw [← V5 m c]
  unfold iblk
  rw [View.read_apply]
  show V m c main_v5 _ = _
  congr 1
  funext a
  apply Fin.ext
  match a with
  | ⟨0, _⟩ => show win0_3.index t 0 * 1 + 1 * 0 = 0; rw [h0]
  | ⟨1, _⟩ => show win0_3.index t 1 * 1024 + 1 * k.val = k.val; rw [h1]; omega

include hb hi in
/-- The window of the second branch's rows. -/
theorem blk4 (r : Fin 512) (k : Fin 1024) :
    (iblk m c 4 t : S1x512x1024.Idx → EReal) (ix3 0 r k)
      = argY m c (ix3 b ⟨i.val * 512 + r.val, by omega⟩ k) := by
  obtain ⟨-, -, -, -, ⟨h0, h1, h2⟩, -⟩ := idx_facts t
  unfold iblk
  rw [View.read_apply]
  show V m c main_arg4 _ = _
  rw [V_main_arg4]
  congr 1
  funext a
  apply Fin.ext
  match a with
  | ⟨0, _⟩ => show win0_4.index t 0 * 1 + 1 * 0 = b.val; rw [h0]; omega
  | ⟨1, _⟩ => show win0_4.index t 1 * 512 + 1 * r.val = i.val * 512 + r.val; rw [h1]; omega
  | ⟨2, _⟩ => show win0_4.index t 2 * 1024 + 1 * k.val = k.val; rw [h2]; omega

include hj in
/-- The window of the first branch's weights. -/
theorem blk5 (k : Fin 1024) (n : Fin 512) :
    (iblk m c 5 t : S1024x512.Idx → EReal) (ix2 k n) = argWa m c (ix3 0 k ⟨j.val * 512 + n.val, by omega⟩) := by
  obtain ⟨-, -, -, -, -, ⟨h0, h1⟩, -⟩ := idx_facts t
  rw [← V2 m c]
  unfold iblk
  rw [View.read_apply]
  show V m c main_v2 _ = _
  congr 1
  funext a
  apply Fin.ext
  match a with
  | ⟨0, _⟩ => show win0_5.index t 0 * 1024 + 1 * k.val = k.val; rw [h0]; omega
  | ⟨1, _⟩ => show win0_5.index t 1 * 512 + 1 * n.val = j.val * 512 + n.val; rw [h1]; omega

include hj in
/-- The window of the second branch's weights. -/
theorem blk6 (k : Fin 1024) (n : Fin 512) :
    (iblk m c 6 t : S1024x512.Idx → EReal) (ix2 k n) = argWb m c (ix3 0 k ⟨j.val * 512 + n.val, by omega⟩) := by
  obtain ⟨-, -, -, -, -, -, ⟨h0, h1⟩, -⟩ := idx_facts t
  rw [← V4 m c]
  unfold iblk
  rw [View.read_apply]
  show V m c main_v4 _ = _
  congr 1
  funext a
  apply Fin.ext
  match a with
  | ⟨0, _⟩ => show win0_6.index t 0 * 1024 + 1 * k.val = k.val; rw [h0]; omega
  | ⟨1, _⟩ => show win0_6.index t 1 * 512 + 1 * n.val = j.val * 512 + n.val; rw [h1]; omega

include hb hi hj in
/-- The window of the first branch's gates. -/
theorem blk7 (r : Fin 512) (n : Fin 512) :
    (X0_7 m c t : S1x512x512.Idx → EReal) (ix3 0 r n)
      = argP m c (ix3 b ⟨i.val * 512 + r.val, by omega⟩ ⟨7168 + (j.val * 512 + n.val), by omega⟩) := by
  obtain ⟨-, -, -, -, -, -, -, ⟨h0, h1, h2⟩, -⟩ := idx_facts t
  unfold X0_7 Pipeline.Window.fill
  rw [dif_pos (moved0_7 t _)]
  unfold iblk
  rw [View.read_apply]
  show V m c main_arg2 _ = _
  rw [V_main_arg2]
  congr 1
  funext a
  apply Fin.ext
  match a with
  | ⟨0, _⟩ => show win0_7.index t 0 * 1 + 1 * 0 = b.val; rw [h0]; omega
  | ⟨1, _⟩ => show win0_7.index t 1 * 512 + 1 * r.val = i.val * 512 + r.val; rw [h1]; omega
  | ⟨2, _⟩ => show win0_7.index t 2 * 512 + 1 * n.val = 7168 + (j.val * 512 + n.val); rw [h2]; omega

include hb hi hj in
/-- The window of the second branch's gates. -/
theorem blk8 (r : Fin 512) (n : Fin 512) :
    (X0_8 m c t : S1x512x512.Idx → EReal) (ix3 0 r n)
      = argP m c (ix3 b ⟨i.val * 512 + r.val, by omega⟩ ⟨9216 + (j.val * 512 + n.val), by omega⟩) := by
  obtain ⟨-, -, -, -, -, -, -, -, ⟨h0, h1, h2⟩, -⟩ := idx_facts t
  unfold X0_8 Pipeline.Window.fill
  rw [dif_pos (moved0_8 t _)]
  unfold iblk
  rw [View.read_apply]
  show V m c main_arg2 _ = _
  rw [V_main_arg2]
  congr 1
  funext a
  apply Fin.ext
  match a with
  | ⟨0, _⟩ => show win0_8.index t 0 * 1 + 1 * 0 = b.val; rw [h0]; omega
  | ⟨1, _⟩ => show win0_8.index t 1 * 512 + 1 * r.val = i.val * 512 + r.val; rw [h1]; omega
  | ⟨2, _⟩ => show win0_8.index t 2 * 512 + 1 * n.val = 9216 + (j.val * 512 + n.val); rw [h2]; omega

end Cert.Merge

end
-- ==== Proof.MergeRef.lean ====
/-
  The reference of the merge of the two branches at one element.
-/
module

public import proofs.«01_k».proof.Proof.MergeSpec
public import proofs.«01_k».proof.Proof.Gen.Reference3Ideal.Read

@[expose] public section

set_option maxRecDepth 16384

noncomputable section

namespace Cert.Merge

open Cert.Reference3Ideal Cert.Reference3Ideal.Read
open Idealize.ShloMosaic Idealize.ShloMosaic.TcCoe

variable (Hf Hb : SH.Idx → EReal) (P : SP.Idx → EReal) (N : SN.Idx → EReal) (Y : SH.Idx → EReal) (Wa Wb : SW.Idx → EReal)

/-- The reference's sum of the two directions, by heads. -/
theorem ref_sum (b : Fin 2) (r : Fin 8192) (e : Fin 8) (l : Fin 128) :
    val_main_v6 (F := Ideal) Hf Hb (ix4 b r e l)
      = Hf (ix3 b r ⟨e.val * 128 + l.val, by omega⟩) + Hb (ix3 b r ⟨e.val * 128 + l.val, by omega⟩) := by
  have e1 : idx_main_v6 (ix4 b r e l) = ix3 b r (⟨e.val * 128 + l.val, by omega⟩ : Fin 1024) := funext fun a => Fin.ext (by
    match a with
    | ⟨0, _⟩ => show (((b.val * 8192 + r.val) * 8 + e.val) * 128 + l.val) / 8388608 = b.val; omega
    | ⟨1, _⟩ => show (((b.val * 8192 + r.val) * 8 + e.val) * 128 + l.val) / 1024 % 8192 = r.val; omega
    | ⟨2, _⟩ => show (((b.val * 8192 + r.val) * 8 + e.val) * 128 + l.val) % 1024 = e.val * 128 + l.val; omega)
  rw [val_main_v6_apply, e1, val_main_v5_apply]
  rfl

/-- The reference's normalised head. -/
theorem ref_norm (b : Fin 2) (r : Fin 8192) (e : Fin 8) (l : Fin 128) :
    val_main_v20 (F := Ideal) Hf Hb N (ix4 b r e l)
      = val_main_v6 (F := Ideal) Hf Hb (ix4 b r e l)
          * Ideal.rsqrt (Ideal.div (∑ y, val_main_v6 (F := Ideal) Hf Hb (ix4 b r e y) * val_main_v6 (F := Ideal) Hf Hb (ix4 b r e y))
              (Ideal.ofBits .f32 0x43000000#32) + Ideal.ofBits .f32 0x358637BD#32)
          * N (ix3 0 e l) := by
  unfold val_main_v20 val_main_v17 val_main_v16 val_main_v15 val_main_v14 val_main_v12 val_main_v10 val_main_v9 val_main_v8
  generalize val_main_v6 (F := Ideal) Hf Hb = y
  pointwise [val_main_v19, val_main_v18, val_main_v13, val_main_v11, val_main_v7, val_main_cst, val_main_cst_0, val_main_cst_1]

/-- The reference's gates. -/
theorem ref_gate (b : Fin 2) (r : Fin 8192) (k : Fin 1024) :
    val_main_v27 (F := Ideal) P (ix3 b r k) = Ideal.logistic (P (ix3 b ⟨r.val, by omega⟩ ⟨3072 + k.val, by omega⟩)) := by
  unfold Ideal.logistic
  pointwise [val_main_v27, val_main_v26, val_main_v25, val_main_v24, val_main_v23, val_main_v22, val_main_v2, val_main_v1,
    val_main_v0, val_main_cst_2, val_main_cst_3]

theorem ref_gate_a (b : Fin 2) (r : Fin 8192) (n : Fin 2048) :
    val_main_v34 (F := Ideal) P (ix3 b r n) = Ideal.logistic (P (ix3 b ⟨r.val, by omega⟩ ⟨7168 + n.val, by omega⟩)) := by
  unfold Ideal.logistic
  pointwise [val_main_v34, val_main_v33, val_main_v32, val_main_v31, val_main_v30, val_main_v29, val_main_v3, val_main_v1,
    val_main_v0, val_main_cst_4, val_main_cst_5]

theorem ref_gate_b (b : Fin 2) (r : Fin 8192) (n : Fin 2048) :
    val_main_v43 (F := Ideal) P (ix3 b r n) = Ideal.logistic (P (ix3 b ⟨r.val, by omega⟩ ⟨9216 + n.val, by omega⟩)) := by
  unfold Ideal.logistic
  pointwise [val_main_v43, val_main_v42, val_main_v41, val_main_v40, val_main_v39, val_main_v38, val_main_v4, val_main_v1,
    val_main_v0, val_main_cst_6, val_main_cst_7]

/-- The reference's first branch before its projection. -/
theorem ref_ym (b : Fin 2) (r : Fin 8192) (k : Fin 1024) :
    val_main_v28 (F := Ideal) Hf Hb P N (ix3 b r k) = ym Hf Hb P N b r k := by
  have e1 : idx_main_v21 (ix3 b r k) = ix4 b r (⟨k.val / 128, by omega⟩ : Fin 8) (⟨k.val % 128, by omega⟩ : Fin 128) :=
    funext fun a => Fin.ext (by
      match a with
      | ⟨0, _⟩ => show ((b.val * 8192 + r.val) * 1024 + k.val) / 8388608 = b.val; omega
      | ⟨1, _⟩ => show ((b.val * 8192 + r.val) * 1024 + k.val) / 1024 % 8192 = r.val; omega
      | ⟨2, _⟩ => show ((b.val * 8192 + r.val) * 1024 + k.val) / 128 % 8 = k.val / 128; omega
      | ⟨3, _⟩ => show ((b.val * 8192 + r.val) * 1024 + k.val) % 128 = k.val % 128; omega)
  rw [val_main_v28_apply, val_main_v21_apply, e1, ref_norm, ref_gate]
  simp only [ref_sum]
  rfl

theorem ref_prod_a (b : Fin 2) (r : Fin 8192) (n : Fin 2048) :
    val_main_v36 (F := Ideal) Hf Hb P N Wa (ix3 b r n) = ∑ k : Fin 1024, ym Hf Hb P N b r k * Wa (ix3 0 k n) := by
  simp only [← ref_ym]
  unfold val_main_v36
  generalize val_main_v28 (F := Ideal) Hf Hb P N = y
  pointwise [val_main_v35]

theorem ref_prod_b (b : Fin 2) (r : Fin 8192) (n : Fin 2048) :
    val_main_v46 (F := Ideal) Y Wb (ix3 b r n) = ∑ k : Fin 1024, Y (ix3 b r k) * Wb (ix3 0 k n) := by
  pointwise [val_main_v46, val_main_v45, val_main_v44]

/-- The reference's result is `G`. -/
theorem ref_eq (b : Fin 2) (r : Fin 8192) (n : Fin 2048) :
    val_main_v49 (F := Ideal) Hf Hb P N Y Wa Wb (ix3 b r n) = G Hf Hb P N Y Wa Wb b r n := by
  rw [val_main_v49_apply, val_main_v48_apply, val_main_v37_apply, val_main_v47_apply, ref_gate_a, ref_gate_b, ref_prod_a,
    ref_prod_b]
  rfl

end Cert.Merge

end
-- ==== Proof.Merge.lean ====
/-
  The merge: the rows kept along a run of grid points, what the result array holds, and that the reference holds the same.
-/
module

public import proofs.«01_k».proof.Proof.MergeBlocks
public import proofs.«01_k».proof.Proof.MergeRef
public import proofs.«01_k».proof.Proof.Gen.Kernel3Ideal.Value
public import proofs.«01_k».proof.Defs
public import Idealize.ShloMosaic.Lib.Claim

@[expose] public section

set_option maxRecDepth 16384

noncomputable section

namespace Cert.Merge

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The first branch's rows of tile `i` of batch `b`. -/
def tile (b : Fin 2) (i : Fin 16) : Vec Ideal S512x1024 .bf16 := fun z =>
  ym (argHf m c) (argHb m c) (argP m c) (argN m c) b
    ⟨i.val * 512 + (z 0).val, by have h : (z 0).val < 512 := (z 0).isLt; omega⟩ (z 1)

/-- The rows a point keeps are those of its tile. -/
theorem kept_eq (t : Fin cfg0.N) (b : Fin 2) (i : Fin 16) (j : Fin 4) (hb : b.val = t.val / 64) (hi : i.val = t.val / 4 % 16) :
    kept (iblk m c 0 t) (iblk m c 1 t) (X0_2 m c t) (iblk m c 3 t) = tile m c b i := by
  funext z
  obtain ⟨r, k, rfl⟩ : ∃ (r : Fin 512) (k : Fin 1024), z = ix2 r k := ⟨z 0, z 1, eq_ix2 z⟩
  rw [kept_apply]
  show _ = ym (argHf m c) (argHb m c) (argP m c) (argN m c) b ⟨i.val * 512 + r.val, by omega⟩ k
  unfold ym
  simp only [blk0 m c t b i j hb hi, blk1 m c t b i j hb hi, blk2 m c t b i j hb hi]
  have e : ∀ y : Fin 128, (k.val / 128 * 128 + y.val) / 128 = k.val / 128 := fun y => by omega
  have e' : ∀ y : Fin 128, (k.val / 128 * 128 + y.val) % 128 = y.val := fun y => by omega
  refine congrArg (gated _ _ · _) (funext fun y => (blk3 m c t b i j _).trans ?_)
  simp only [e, e']

/-- The rows kept after a point are those of its tile. -/
theorem held (b : Fin 2) (i : Fin 16) : ∀ (j : ℕ) (_ : j < 4) (t : Fin cfg0.N) (_ : t.val = (b.val * 16 + i.val) * 4 + j),
    (outsAt0 m c t.val t.isLt).2 = tile m c b i
  | 0, _, t, ht => by
    rw [outsAt0_A m c t (by omega)]
    dsimp only
    rw [A_kept]
    exact kept_eq m c t b i 0 (by omega) (by omega)
  | j + 1, hj, t, ht => by
    have ih := held b i j (by omega) ⟨t.val - 1, Nat.lt_of_le_of_lt (Nat.sub_le _ _) t.isLt⟩ (by show t.val - 1 = _; omega)
    rw [outsAt0_B m c t (by omega)]
    exact ih

/-- What a point stores. -/
theorem stored (t : Fin cfg0.N) (b : Fin 2) (i : Fin 16) (j : Fin 4) (ht : t.val = (b.val * 16 + i.val) * 4 + j.val)
    (r : Fin 512) (n : Fin 512) :
    ((outsAt0 m c t.val t.isLt).1 : S1x512x512.Idx → EReal) (ix3 0 r n)
      = G (argHf m c) (argHb m c) (argP m c) (argN m c) (argY m c) (argWa m c) (argWb m c) b ⟨i.val * 512 + r.val, by omega⟩
          ⟨j.val * 512 + n.val, by omega⟩ := by
  have e : (outsAt0 m c t.val t.isLt).1
      = k0_pay2 (tile m c b i) (iblk m c 5 t) (iblk m c 4 t) (iblk m c 6 t) (X0_7 m c t) (X0_8 m c t) := by
    by_cases h : t.val % 4 = 0
    · rw [outsAt0_A m c t h]
      dsimp only
      rw [A_out, kept_eq m c t b i j (by omega) (by omega)]
    · have ih := held m c b i (j.val - 1) (by omega) ⟨t.val - 1, Nat.lt_of_le_of_lt (Nat.sub_le _ _) t.isLt⟩
        (by show t.val - 1 = _; omega)
      rw [outsAt0_B m c t h]
      dsimp only
      rw [B_out]
      exact congrArg (k0_pay2 · (iblk m c 5 t) (iblk m c 4 t) (iblk m c 6 t) (X0_7 m c t) (X0_8 m c t)) ih
  rw [e, prod_apply, blk7 m c t b i j (by omega) (by omega) (by omega), blk8 m c t b i j (by omega) (by omega) (by omega)]
  unfold G
  refine congrArg₂ (· + ·) (congrArg (_ * ·) (Finset.sum_congr rfl fun k _ => ?_))
    (congrArg (_ * ·) (Finset.sum_congr rfl fun k _ => ?_))
  · rw [blk5 m c t b i j (by omega)]
    rfl
  · rw [blk6 m c t b i j (by omega), blk4 m c t b i j (by omega) (by omega)]

/-- The result array: `G` of the arguments at every index. -/
def result (c : Dev nD) : S2x8192x2048.Idx → EReal := fun i =>
  G (argHf m c) (argHb m c) (argP m c) (argN m c) (argY m c) (argWa m c) (argWb m c) (i 0) (i 1) (i 2)

/-- Each grid point writes back its block of the result array. -/
theorem flushed_eq (c : Dev nD) (t : Fin cfg0.N) :
    (dats m 0 c).flushed 9 t = ((cfg0.win 9).blk t).view.read (Elt Ideal) (result m c) := by
  have hN : t.val < 128 := t.isLt
  obtain ⟨-, -, -, -, -, -, -, -, -, ⟨h0, h1, h2⟩⟩ := idx_facts t
  rw [Cert.Kernel3Ideal.Value.flushed9]
  funext j
  rw [View.read_apply]
  show (outsAt0 m c t.val t.isLt).1 j = result m c (((cfg0.win 9).blk t).view.emb j)
  have hj : ∃ (r : Fin 512) (n : Fin 512), (j : S1x512x512.Idx) = ix3 0 r n :=
    ⟨j 1, j 2, by rw [eq_ix3 (j : S1x512x512.Idx)]; congr 1; exact Subsingleton.elim _ _⟩
  obtain ⟨r, n, rfl⟩ := hj
  have he : ((cfg0.win 9).blk t).view.emb (ix3 0 r n : S1x512x512.Idx)
      = (ix3 ⟨t.val / 64, by omega⟩ ⟨t.val / 4 % 16 * 512 + r.val, by omega⟩ ⟨t.val % 4 * 512 + n.val, by omega⟩
          : S2x8192x2048.Idx) := by
    funext a
    apply Fin.ext
    match a with
    | ⟨0, _⟩ => show win0_9.index t 0 * 1 + 1 * 0 = t.val / 64; rw [h0]; omega
    | ⟨1, _⟩ => show win0_9.index t 1 * 512 + 1 * r.val = _; rw [h1]; show _ = t.val / 4 % 16 * 512 + r.val; omega
    | ⟨2, _⟩ => show win0_9.index t 2 * 512 + 1 * n.val = _; rw [h2]; show _ = t.val % 4 * 512 + n.val; omega
  rw [he]
  exact stored m c t ⟨t.val / 64, by omega⟩ ⟨t.val / 4 % 16, by omega⟩ ⟨t.val % 4, by omega⟩
    (by show t.val = (t.val / 64 * 16 + t.val / 4 % 16) * 4 + t.val % 4; omega) r n

/-- After the run the result array is `result`: every index lies in the block of one grid point. -/
theorem final (c : Dev nD) : (dats m 0 c).arrAt 9 cfg0.N = result m c :=
  (dats m 0 c).arrAt_eq_of_cover 9 (result m c) (fun t _ => flushed_eq m c t) fun (i : S2x8192x2048.Idx) => by
    have h0 : (i 0 : Nat) < 2 := (i 0).isLt
    have h1 : (i 1 : Nat) < 8192 := (i 1).isLt
    have h2 : (i 2 : Nat) < 2048 := (i 2).isLt
    have hN : ((i 0 : Nat) * 16 + (i 1 : Nat) / 512) * 4 + (i 2 : Nat) / 512 < 128 := by omega
    refine ⟨⟨((i 0 : Nat) * 16 + (i 1 : Nat) / 512) * 4 + (i 2 : Nat) / 512, hN⟩, flush0_9 _, ?_⟩
    obtain ⟨-, -, -, -, -, -, -, -, -, ⟨e0, e1, e2⟩⟩ :=
      idx_facts ⟨((i 0 : Nat) * 16 + (i 1 : Nat) / 512) * 4 + (i 2 : Nat) / 512, hN⟩
    show i ∈ ((View.whole main_v6).slice
      (win0_9.rect ⟨((i 0 : Nat) * 16 + (i 1 : Nat) / 512) * 4 + (i 2 : Nat) / 512, hN⟩)).set
    rw [View.set_slice_whole, Rect.mem_set_unit]
    intro a
    match a with
    | ⟨0, _⟩ => show win0_9.index _ 0 * 1 ≤ (i 0 : Nat) ∧ (i 0 : Nat) < win0_9.index _ 0 * 1 + 1
                rw [e0]; dsimp only; omega
    | ⟨1, _⟩ => show win0_9.index _ 1 * 512 ≤ (i 1 : Nat) ∧ (i 1 : Nat) < win0_9.index _ 1 * 512 + 512
                rw [e1]; dsimp only; omega
    | ⟨2, _⟩ => show win0_9.index _ 2 * 512 ≤ (i 2 : Nat) ∧ (i 2 : Nat) < win0_9.index _ 2 * 512 + 512
                rw [e2]; dsimp only; omega

/-- From memories that agree on the arguments, kernel and reference end with the same result. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    rw [final]
    funext i
    obtain ⟨b, r, n, rfl⟩ : ∃ (b : Fin 2) (r : Fin 8192) (n : Fin 2048), i = ix3 b r n := ⟨i 0, i 1, i 2, eq_ix3 i⟩
    rw [Cert.Reference3Ideal.Read.val_main_v49_eq]
    exact ref_eq _ _ _ _ _ _ _ b r n

end Cert.Merge

end
-- ==== Proof.OutProj.lean ====
/-
  The output projection with its residual: what one grid point computes, what the result array holds, and that the
  reference holds the same.
-/
module

public import proofs.«01_k».proof.Proof.Gen.Kernel4Ideal.Value
public import proofs.«01_k».proof.Proof.Gen.Reference4Ideal.Read
public import Idealize.ShloMosaic.Lib.Pointwise
public import proofs.«01_k».proof.Defs
public import Idealize.ShloMosaic.Lib.Claim

@[expose] public section

noncomputable section

namespace Cert.OutProj

open Cert.Kernel4Ideal Cert.Kernel4Ideal.Gen
open Idealize.ShloMosaic Idealize.ShloMosaic.TcCoe Idealize.SL.Sem

variable (m : (ℓ : Loc nD τ sig) → Buf (Elt Ideal) ℓ)

/-- One element of the result: the residual plus the gate times the row of `u` against the column of the weights. -/
def G (u : S2x8192x2048.Idx → EReal) (w : S1x2048x2048.Idx → EReal) (x : S2x8192x2048.Idx → EReal)
    (g : S8x12288.Idx → EReal) (b : Fin 2) (r : Fin 8192) (n : Fin 2048) : EReal :=
  x (ix3 b r n) + g (ix2 ⟨b.val, by omega⟩ ⟨4096 + n.val, by omega⟩) * ∑ k : Fin 2048, u (ix3 b r k) * w (ix3 0 k n)

/-- The block indices of the five windows at a grid point: batch `t / 32`, row tile `t / 2 % 16`, column tile `t % 2`. -/
theorem idx_facts : ∀ t : Fin cfg0.N,
    win0_0.index t 0 = t.val / 32 ∧ win0_0.index t 1 = t.val / 2 % 16 ∧ win0_0.index t 2 = 0
    ∧ win0_1.index t 0 = 0 ∧ win0_1.index t 1 = t.val % 2
    ∧ win0_2.index t 0 = t.val / 32 ∧ win0_2.index t 1 = t.val / 2 % 16 ∧ win0_2.index t 2 = t.val % 2
    ∧ win0_3.index t 0 = t.val / 32 ∧ win0_3.index t 1 = 0 ∧ win0_3.index t 2 = t.val % 2
    ∧ win0_4.index t 0 = t.val / 32 ∧ win0_4.index t 1 = t.val / 2 % 16 ∧ win0_4.index t 2 = t.val % 2 :=
  (by decide +kernel : ∀ t : Fin grid0.N, _)

theorem hz3 : (![0, 0, 0] : Fin 3 → Nat) = fun _ => 0 := funext fun a => by fin_cases a <;> rfl
theorem hz2 : (![0, 0] : Fin 2 → Nat) = fun _ => 0 := funext fun a => by fin_cases a <;> rfl

/-- What a grid point stores, at one element of its block, from the four input blocks. -/
theorem out_apply (x0 : Vec Ideal S1x512x2048 .bf16) (x1 : Vec Ideal S2048x1024 .bf16) (x2 : Vec Ideal S1x512x1024 .f32)
    (x3 : Vec Ideal S1x1x1024 .f32) (r : Fin 512) (n : Fin 1024) :
    out0_4 x0 x1 x2 x3 (ix3 0 r n)
      = x2 (ix3 0 r n) + x3 (ix3 0 0 n) * ∑ k : Fin 2048, x0 (ix3 0 r k) * x1 (ix2 k n) := by
  unfold out0_4
  rw [View.canon_unit_zero (S := S1x512x1024) hz3]
  simp only [View.ld_unit_zero (S := S1x512x2048) hz3, View.ld_unit_zero (S := S2048x1024) hz2,
    View.ld_unit_zero (S := S1x512x1024) hz3, View.ld_unit_zero (S := S1x1x1024) hz3]
  pointwise [k0_pay1]

/-- The window of `u` at a point holds batch `t / 32`, rows of tile `t / 2 % 16`. -/
theorem blk0 (c : Dev nD) (t : Fin cfg0.N) (r : Fin 512) (k : Fin 2048) (b : Fin 2) (q : Fin 8192)
    (hb : b.val = t.val / 32) (hq : q.val = t.val / 2 % 16 * 512 + r.val) :
    (iblk m c 0 t : S1x512x2048.Idx → EReal) (ix3 0 r k) = m ((c : Thread nD τ).loc main_arg0) (ix3 b q k) := by
  obtain ⟨h0, h1, h2, -⟩ := idx_facts t
  unfold iblk
  rw [View.read_apply]
  show V m c main_arg0 _ = _
  rw [V_main_arg0]
  congr 1
  funext a
  apply Fin.ext
  match a with
  | ⟨0, _⟩ => show win0_0.index t 0 * 1 + 1 * 0 = b.val; rw [h0]; omega
  | ⟨1, _⟩ => show win0_0.index t 1 * 512 + 1 * r.val = q.val; rw [h1]; omega
  | ⟨2, _⟩ => show win0_0.index t 2 * 2048 + 1 * k.val = k.val; rw [h2]; omega

/-- The weights as the region starts with them. -/
theorem V7 (c : Dev nD) (k n : Fin 2048) :
    V m c main_v7 (ix2 k n) = m ((c : Thread nD τ).loc main_arg1) (ix3 0 k n) := by
  entry_read
  pointwise

/-- The gate as the region starts with it: columns 4096 to 6143 of the first two rows of the modulation. -/
theorem V9 (c : Dev nD) (b : Fin 2) (n : Fin 2048) :
    V m c main_v9 (ix3 b 0 n) = m ((c : Thread nD τ).loc main_arg3) (ix2 ⟨b.val, by omega⟩ ⟨4096 + n.val, by omega⟩) := by
  entry_read
  pointwise

/-- The window of the weights at a point holds every row of column tile `t % 2`. -/
theorem blk1 (c : Dev nD) (t : Fin cfg0.N) (k : Fin 2048) (n : Fin 1024) (q : Fin 2048)
    (hq : q.val = t.val % 2 * 1024 + n.val) :
    (iblk m c 1 t : S2048x1024.Idx → EReal) (ix2 k n) = m ((c : Thread nD τ).loc main_arg1) (ix3 0 k q) := by
  obtain ⟨-, -, -, h0, h1, -⟩ := idx_facts t
  rw [← V7 m c k q]
  unfold iblk
  rw [View.read_apply]
  show V m c main_v7 _ = _
  congr 1
  funext a
  apply Fin.ext
  match a with
  | ⟨0, _⟩ => show win0_1.index t 0 * 2048 + 1 * k.val = k.val; rw [h0]; omega
  | ⟨1, _⟩ => show win0_1.index t 1 * 1024 + 1 * n.val = q.val; rw [h1]; omega

/-- The window of the residual at a point holds batch `t / 32`, row tile `t / 2 % 16`, column tile `t % 2`. -/
theorem blk2 (c : Dev nD) (t : Fin cfg0.N) (r : Fin 512) (n : Fin 1024) (b : Fin 2) (q : Fin 8192) (k : Fin 2048)
    (hb : b.val = t.val / 32) (hq : q.val = t.val / 2 % 16 * 512 + r.val) (hk : k.val = t.val % 2 * 1024 + n.val) :
    (iblk m c 2 t : S1x512x1024.Idx → EReal) (ix3 0 r n) = m ((c : Thread nD τ).loc main_arg2) (ix3 b q k) := by
  obtain ⟨-, -, -, -, -, h0, h1, h2, -⟩ := idx_facts t
  unfold iblk
  rw [View.read_apply]
  show V m c main_arg2 _ = _
  rw [V_main_arg2]
  congr 1
  funext a
  apply Fin.ext
  match a with
  | ⟨0, _⟩ => show win0_2.index t 0 * 1 + 1 * 0 = b.val; rw [h0]; omega
  | ⟨1, _⟩ => show win0_2.index t 1 * 512 + 1 * r.val = q.val; rw [h1]; omega
  | ⟨2, _⟩ => show win0_2.index t 2 * 1024 + 1 * n.val = k.val; rw [h2]; omega

/-- The window of the gate at a point holds batch `t / 32`, column tile `t % 2`. -/
theorem blk3 (c : Dev nD) (t : Fin cfg0.N) (n : Fin 1024) (b : Fin 2) (k : Fin 2048)
    (hb : b.val = t.val / 32) (hk : k.val = t.val % 2 * 1024 + n.val) :
    (iblk m c 3 t : S1x1x1024.Idx → EReal) (ix3 0 0 n)
      = m ((c : Thread nD τ).loc main_arg3) (ix2 ⟨b.val, by omega⟩ ⟨4096 + k.val, by omega⟩) := by
  obtain ⟨-, -, -, -, -, -, -, -, h0, h1, h2, -⟩ := idx_facts t
  rw [← V9 m c b k]
  unfold iblk
  rw [View.read_apply]
  show V m c main_v9 _ = _
  congr 1
  funext a
  apply Fin.ext
  match a with
  | ⟨0, _⟩ => show win0_3.index t 0 * 1 + 1 * 0 = b.val; rw [h0]; omega
  | ⟨1, _⟩ => show win0_3.index t 1 * 1 + 1 * 0 = 0; rw [h1]
  | ⟨2, _⟩ => show win0_3.index t 2 * 1024 + 1 * n.val = k.val; rw [h2]; omega

/-- The result array: `G` of the arguments at every index. -/
def result (c : Dev nD) : S2x8192x2048.Idx → EReal := fun i =>
  G (m ((c : Thread nD τ).loc main_arg0)) (m ((c : Thread nD τ).loc main_arg1)) (m ((c : Thread nD τ).loc main_arg2))
    (m ((c : Thread nD τ).loc main_arg3)) (i 0) (i 1) (i 2)

/-- Each grid point writes back its block of the result array. -/
theorem flushed_eq (c : Dev nD) (t : Fin cfg0.N) :
    (dats m 0 c).flushed 4 t = ((cfg0.win 4).blk t).view.read (Elt Ideal) (result m c) := by
  have hN : t.val < 64 := t.isLt
  obtain ⟨-, -, -, -, -, -, -, -, -, -, -, h0, h1, h2⟩ := idx_facts t
  rw [Cert.Kernel4Ideal.Value.flushed4]
  funext j
  rw [View.read_apply]
  show out0_4 (iblk m c 0 t) (iblk m c 1 t) (iblk m c 2 t) (iblk m c 3 t) j
    = result m c (((cfg0.win 4).blk t).view.emb j)
  have hj : ∃ (r : Fin 512) (n : Fin 1024), (j : S1x512x1024.Idx) = ix3 0 r n :=
    ⟨j 1, j 2, by rw [eq_ix3 (j : S1x512x1024.Idx)]; congr 1; exact Subsingleton.elim _ _⟩
  obtain ⟨r, n, rfl⟩ := hj
  have he : ((cfg0.win 4).blk t).view.emb (ix3 0 r n : S1x512x1024.Idx)
      = (ix3 ⟨t.val / 32, by omega⟩ ⟨t.val / 2 % 16 * 512 + r.val, by omega⟩ ⟨t.val % 2 * 1024 + n.val, by omega⟩
          : S2x8192x2048.Idx) := by
    funext a
    apply Fin.ext
    match a with
    | ⟨0, _⟩ => show win0_4.index t 0 * 1 + 1 * 0 = t.val / 32; rw [h0]; omega
    | ⟨1, _⟩ => show win0_4.index t 1 * 512 + 1 * r.val = _; rw [h1]; show _ = t.val / 2 % 16 * 512 + r.val; omega
    | ⟨2, _⟩ => show win0_4.index t 2 * 1024 + 1 * n.val = _; rw [h2]; show _ = t.val % 2 * 1024 + n.val; omega
  rw [he, out_apply, blk2 m c t r n ⟨t.val / 32, by omega⟩ ⟨t.val / 2 % 16 * 512 + r.val, by omega⟩
      ⟨t.val % 2 * 1024 + n.val, by omega⟩ rfl rfl rfl,
    blk3 m c t n ⟨t.val / 32, by omega⟩ ⟨t.val % 2 * 1024 + n.val, by omega⟩ rfl rfl]
  show _ = G _ _ _ _ _ _ _
  unfold G
  congr 2
  refine Finset.sum_congr rfl fun k _ => ?_
  rw [blk0 m c t r k ⟨t.val / 32, by omega⟩ ⟨t.val / 2 % 16 * 512 + r.val, by omega⟩ rfl rfl,
    blk1 m c t k n ⟨t.val % 2 * 1024 + n.val, by omega⟩ rfl]
  rfl

/-- After the run the result array is `result`: every index lies in the block of one grid point. -/
theorem final (c : Dev nD) : (dats m 0 c).arrAt 4 cfg0.N = result m c :=
  (dats m 0 c).arrAt_eq_of_cover 4 (result m c) (fun t _ => flushed_eq m c t) fun (i : S2x8192x2048.Idx) => by
    have h0 : (i 0 : Nat) < 2 := (i 0).isLt
    have h1 : (i 1 : Nat) < 8192 := (i 1).isLt
    have h2 : (i 2 : Nat) < 2048 := (i 2).isLt
    have hN : (i 0 : Nat) * 32 + (i 1 : Nat) / 512 * 2 + (i 2 : Nat) / 1024 < 64 := by omega
    refine ⟨⟨(i 0 : Nat) * 32 + (i 1 : Nat) / 512 * 2 + (i 2 : Nat) / 1024, hN⟩, flush0_4 _, ?_⟩
    obtain ⟨-, -, -, -, -, -, -, -, -, -, -, e0, e1, e2⟩ :=
      idx_facts ⟨(i 0 : Nat) * 32 + (i 1 : Nat) / 512 * 2 + (i 2 : Nat) / 1024, hN⟩
    show i ∈ ((View.whole main_v10).slice (win0_4.rect ⟨(i 0 : Nat) * 32 + (i 1 : Nat) / 512 * 2 + (i 2 : Nat) / 1024, hN⟩)).set
    rw [View.set_slice_whole, Rect.mem_set_unit]
    intro a
    match a with
    | ⟨0, _⟩ => show win0_4.index _ 0 * 1 ≤ (i 0 : Nat) ∧ (i 0 : Nat) < win0_4.index _ 0 * 1 + 1
                rw [e0]; dsimp only; omega
    | ⟨1, _⟩ => show win0_4.index _ 1 * 512 ≤ (i 1 : Nat) ∧ (i 1 : Nat) < win0_4.index _ 1 * 512 + 512
                rw [e1]; dsimp only; omega
    | ⟨2, _⟩ => show win0_4.index _ 2 * 1024 ≤ (i 2 : Nat) ∧ (i 2 : Nat) < win0_4.index _ 2 * 1024 + 1024
                rw [e2]; dsimp only; omega

/-- The reference's result is `G` of the arguments at every index. -/
theorem ref_eq (u : S2x8192x2048.Idx → EReal) (w : S1x2048x2048.Idx → EReal) (x : S2x8192x2048.Idx → EReal)
    (g : S8x12288.Idx → EReal) (b : Fin 2) (r : Fin 8192) (n : Fin 2048) :
    Cert.Reference4Ideal.Read.val_main_v13 (F := Ideal) u w x g (ix3 b r n) = G u w x g b r n := by
  pointwise [Cert.Reference4Ideal.Read.val_main_v13, Cert.Reference4Ideal.Read.val_main_v12,
    Cert.Reference4Ideal.Read.val_main_v11, Cert.Reference4Ideal.Read.val_main_v10, Cert.Reference4Ideal.Read.val_main_v9,
    Cert.Reference4Ideal.Read.val_main_v8, Cert.Reference4Ideal.Read.val_main_v4, Cert.Reference4Ideal.Read.val_main_v1,
    Cert.Reference4Ideal.Read.val_main_v0]
  rfl

/-- From memories that agree on the arguments, kernel and reference end with the same result. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    rw [final]
    funext i
    obtain ⟨b, r, n, rfl⟩ : ∃ (b : Fin 2) (r : Fin 8192) (n : Fin 2048), i = ix3 b r n := ⟨i 0, i 1, i 2, eq_ix3 i⟩
    exact ref_eq _ _ _ _ b r n

end Cert.OutProj

end
-- ==== Proof.FinalNorm.lean ====
/-
  The last residual and the final normalisation: what one grid point computes, what the result array holds, and that the
  reference holds the same.
-/
module

public import proofs.«01_k».proof.Proof.Gen.Kernel5Ideal.Value
public import proofs.«01_k».proof.Proof.Gen.Reference5Ideal.Read
public import Idealize.ShloMosaic.Lib.Pointwise
public import proofs.«01_k».proof.Defs
public import Idealize.ShloMosaic.Lib.Claim

@[expose] public section

noncomputable section

namespace Cert.FinalNorm

open Cert.Kernel5Ideal Cert.Kernel5Ideal.Gen
open Idealize.ShloMosaic Idealize.ShloMosaic.TcCoe Idealize.SL.Sem

variable (m : (ℓ : Loc nD τ sig) → Buf (Elt Ideal) ℓ)

/-- One element of a normalised row: the element, over the root of the row's mean square plus the stabiliser, times its
    weight. -/
def norm (row : Fin 2048 → EReal) (w : EReal) (n : Fin 2048) : EReal :=
  row n * Ideal.rsqrt (Ideal.div (∑ k : Fin 2048, row k * row k) (Ideal.ofBits .f32 0x45000000#32)
    + Ideal.ofBits .f32 0x358637BD#32) * w

/-- One element of the result: the row of the residual plus the gate times the experts' output, normalised. -/
def G (x p : S2x8192x2048.Idx → EReal) (g : S8x12288.Idx → EReal) (w : S2048.Idx → EReal)
    (b : Fin 2) (r : Fin 8192) (n : Fin 2048) : EReal :=
  norm (fun k => x (ix3 b r k) + g (ix2 ⟨b.val, by omega⟩ ⟨10240 + k.val, by omega⟩) * p (ix3 b r k)) (w (ix1 n)) n

/-- The block indices of the five windows at a grid point: batch `t / 16`, row tile `t % 16`. -/
theorem idx_facts : ∀ t : Fin cfg0.N,
    win0_0.index t 0 = t.val / 16 ∧ win0_0.index t 1 = t.val % 16 ∧ win0_0.index t 2 = 0
    ∧ win0_1.index t 0 = t.val / 16 ∧ win0_1.index t 1 = t.val % 16 ∧ win0_1.index t 2 = 0
    ∧ win0_2.index t 0 = t.val / 16 ∧ win0_2.index t 1 = 0 ∧ win0_2.index t 2 = 0
    ∧ win0_3.index t 0 = 0 ∧ win0_3.index t 1 = 0
    ∧ win0_4.index t 0 = t.val / 16 ∧ win0_4.index t 1 = t.val % 16 ∧ win0_4.index t 2 = 0 :=
  (by decide +kernel : ∀ t : Fin grid0.N, _)

theorem hz3 : (![0, 0, 0] : Fin 3 → Nat) = fun _ => 0 := funext fun a => by fin_cases a <;> rfl
theorem hz2 : (![0, 0] : Fin 2 → Nat) = fun _ => 0 := funext fun a => by fin_cases a <;> rfl

/-- What a grid point stores, at one element of its block, from the four input blocks. -/
theorem out_apply (x0 x1 : Vec Ideal S1x512x2048 .f32) (x2 : Vec Ideal S1x1x2048 .f32)
    (x3 : Vec Ideal S1x2048 .f32) (r : Fin 512) (n : Fin 2048) :
    out0_4 x0 x1 x2 x3 (ix3 0 r n)
      = norm (fun k => x0 (ix3 0 r k) + x2 (ix3 0 0 k) * x1 (ix3 0 r k)) (x3 (ix2 0 n)) n := by
  unfold out0_4
  rw [View.canon_unit_zero (S := S1x512x2048) hz3]
  simp only [View.ld_unit_zero (S := S1x512x2048) hz3, View.ld_unit_zero (S := S1x2048) hz2,
    View.ld_unit_zero (S := S1x1x2048) hz3]
  pointwise [k0_pay1, norm]

/-- The window of the residual at a point holds batch `t / 16`, rows of tile `t % 16`. -/
theorem blk0 (c : Dev nD) (t : Fin cfg0.N) (r : Fin 512) (k : Fin 2048) (b : Fin 2) (q : Fin 8192)
    (hb : b.val = t.val / 16) (hq : q.val = t.val % 16 * 512 + r.val) :
    (iblk m c 0 t : S1x512x2048.Idx → EReal) (ix3 0 r k) = m ((c : Thread nD τ).loc main_arg0) (ix3 b q k) := by
  obtain ⟨h0, h1, h2, -⟩ := idx_facts t
  unfold iblk
  rw [View.read_apply]
  show V m c main_arg0 _ = _
  rw [V_main_arg0]
  congr 1
  funext a
  apply Fin.ext
  match a with
  | ⟨0, _⟩ => show win0_0.index t 0 * 1 + 1 * 0 = b.val; rw [h0]; omega
  | ⟨1, _⟩ => show win0_0.index t 1 * 512 + 1 * r.val = q.val; rw [h1]; omega
  | ⟨2, _⟩ => show win0_0.index t 2 * 2048 + 1 * k.val = k.val; rw [h2]; omega

/-- The window of the experts' output at a point holds batch `t / 16`, rows of tile `t % 16`. -/
theorem blk1 (c : Dev nD) (t : Fin cfg0.N) (r : Fin 512) (k : Fin 2048) (b : Fin 2) (q : Fin 8192)
    (hb : b.val = t.val / 16) (hq : q.val = t.val % 16 * 512 + r.val) :
    (iblk m c 1 t : S1x512x2048.Idx → EReal) (ix3 0 r k) = m ((c : Thread nD τ).loc main_arg1) (ix3 b q k) := by
  obtain ⟨-, -, -, h0, h1, h2, -⟩ := idx_facts t
  unfold iblk
  rw [View.read_apply]
  show V m c main_arg1 _ = _
  rw [V_main_arg1]
  congr 1
  funext a
  apply Fin.ext
  match a with
  | ⟨0, _⟩ => show win0_1.index t 0 * 1 + 1 * 0 = b.val; rw [h0]; omega
  | ⟨1, _⟩ => show win0_1.index t 1 * 512 + 1 * r.val = q.val; rw [h1]; omega
  | ⟨2, _⟩ => show win0_1.index t 2 * 2048 + 1 * k.val = k.val; rw [h2]; omega

/-- The gate as the region starts with it: columns 10240 to 12287 of the first two rows of the modulation. -/
theorem V7 (c : Dev nD) (b : Fin 2) (n : Fin 2048) :
    V m c main_v7 (ix3 b 0 n) = m ((c : Thread nD τ).loc main_arg2) (ix2 ⟨b.val, by omega⟩ ⟨10240 + n.val, by omega⟩) := by
  entry_read
  pointwise

/-- The weights as the region starts with them. -/
theorem V8 (c : Dev nD) (n : Fin 2048) :
    V m c main_v8 (ix2 0 n) = m ((c : Thread nD τ).loc main_arg3) (ix1 n) := by
  entry_read
  pointwise

/-- The window of the gate at a point holds batch `t / 16`. -/
theorem blk2 (c : Dev nD) (t : Fin cfg0.N) (n : Fin 2048) (b : Fin 2) (hb : b.val = t.val / 16) :
    (iblk m c 2 t : S1x1x2048.Idx → EReal) (ix3 0 0 n)
      = m ((c : Thread nD τ).loc main_arg2) (ix2 ⟨b.val, by omega⟩ ⟨10240 + n.val, by omega⟩) := by
  obtain ⟨-, -, -, -, -, -, h0, h1, h2, -⟩ := idx_facts t
  rw [← V7 m c b n]
  unfold iblk
  rw [View.read_apply]
  show V m c main_v7 _ = _
  congr 1
  funext a
  apply Fin.ext
  match a with
  | ⟨0, _⟩ => show win0_2.index t 0 * 1 + 1 * 0 = b.val; rw [h0]; omega
  | ⟨1, _⟩ => show win0_2.index t 1 * 1 + 1 * 0 = 0; rw [h1]
  | ⟨2, _⟩ => show win0_2.index t 2 * 2048 + 1 * n.val = n.val; rw [h2]; omega

/-- The window of the weights at a point holds all of them. -/
theorem blk3 (c : Dev nD) (t : Fin cfg0.N) (n : Fin 2048) :
    (iblk m c 3 t : S1x2048.Idx → EReal) (ix2 0 n) = m ((c : Thread nD τ).loc main_arg3) (ix1 n) := by
  obtain ⟨-, -, -, -, -, -, -, -, -, h0, h1, -⟩ := idx_facts t
  rw [← V8 m c n]
  unfold iblk
  rw [View.read_apply]
  show V m c main_v8 _ = _
  congr 1
  funext a
  apply Fin.ext
  match a with
  | ⟨0, _⟩ => show win0_3.index t 0 * 1 + 1 * 0 = 0; rw [h0]
  | ⟨1, _⟩ => show win0_3.index t 1 * 2048 + 1 * n.val = n.val; rw [h1]; omega

/-- The result array: `G` of the arguments at every index. -/
def result (c : Dev nD) : S2x8192x2048.Idx → EReal := fun i =>
  G (m ((c : Thread nD τ).loc main_arg0)) (m ((c : Thread nD τ).loc main_arg1)) (m ((c : Thread nD τ).loc main_arg2))
    (m ((c : Thread nD τ).loc main_arg3)) (i 0) (i 1) (i 2)

/-- Each grid point writes back its block of the result array. -/
theorem flushed_eq (c : Dev nD) (t : Fin cfg0.N) :
    (dats m 0 c).flushed 4 t = ((cfg0.win 4).blk t).view.read (Elt Ideal) (result m c) := by
  have hN : t.val < 32 := t.isLt
  obtain ⟨-, -, -, -, -, -, -, -, -, -, -, h0, h1, h2⟩ := idx_facts t
  rw [Cert.Kernel5Ideal.Value.flushed4]
  funext j
  rw [View.read_apply]
  show out0_4 (iblk m c 0 t) (iblk m c 1 t) (iblk m c 2 t) (iblk m c 3 t) j
    = result m c (((cfg0.win 4).blk t).view.emb j)
  have hj : ∃ (r : Fin 512) (n : Fin 2048), (j : S1x512x2048.Idx) = ix3 0 r n :=
    ⟨j 1, j 2, by rw [eq_ix3 (j : S1x512x2048.Idx)]; congr 1; exact Subsingleton.elim _ _⟩
  obtain ⟨r, n, rfl⟩ := hj
  have he : ((cfg0.win 4).blk t).view.emb (ix3 0 r n : S1x512x2048.Idx)
      = (ix3 ⟨t.val / 16, by omega⟩ ⟨t.val % 16 * 512 + r.val, by omega⟩ n : S2x8192x2048.Idx) := by
    funext a
    apply Fin.ext
    match a with
    | ⟨0, _⟩ => show win0_4.index t 0 * 1 + 1 * 0 = t.val / 16; rw [h0]; omega
    | ⟨1, _⟩ => show win0_4.index t 1 * 512 + 1 * r.val = _; rw [h1]; show _ = t.val % 16 * 512 + r.val; omega
    | ⟨2, _⟩ => show win0_4.index t 2 * 2048 + 1 * n.val = n.val; rw [h2]; omega
  rw [he, out_apply, blk3 m c t n]
  show _ = G _ _ _ _ _ _ _
  unfold G
  congr 1
  funext k
  rw [blk0 m c t r k ⟨t.val / 16, by omega⟩ ⟨t.val % 16 * 512 + r.val, by omega⟩ rfl rfl,
    blk1 m c t r k ⟨t.val / 16, by omega⟩ ⟨t.val % 16 * 512 + r.val, by omega⟩ rfl rfl,
    blk2 m c t k ⟨t.val / 16, by omega⟩ rfl]
  rfl

/-- After the run the result array is `result`: every index lies in the block of one grid point. -/
theorem final (c : Dev nD) : (dats m 0 c).arrAt 4 cfg0.N = result m c :=
  (dats m 0 c).arrAt_eq_of_cover 4 (result m c) (fun t _ => flushed_eq m c t) fun (i : S2x8192x2048.Idx) => by
    have h0 : (i 0 : Nat) < 2 := (i 0).isLt
    have h1 : (i 1 : Nat) < 8192 := (i 1).isLt
    have h2 : (i 2 : Nat) < 2048 := (i 2).isLt
    have hN : (i 0 : Nat) * 16 + (i 1 : Nat) / 512 < 32 := by omega
    refine ⟨⟨(i 0 : Nat) * 16 + (i 1 : Nat) / 512, hN⟩, flush0_4 _, ?_⟩
    obtain ⟨-, -, -, -, -, -, -, -, -, -, -, e0, e1, e2⟩ := idx_facts ⟨(i 0 : Nat) * 16 + (i 1 : Nat) / 512, hN⟩
    show i ∈ ((View.whole main_v9).slice (win0_4.rect ⟨(i 0 : Nat) * 16 + (i 1 : Nat) / 512, hN⟩)).set
    rw [View.set_slice_whole, Rect.mem_set_unit]
    intro a
    match a with
    | ⟨0, _⟩ => show win0_4.index _ 0 * 1 ≤ (i 0 : Nat) ∧ (i 0 : Nat) < win0_4.index _ 0 * 1 + 1
                rw [e0]; dsimp only; omega
    | ⟨1, _⟩ => show win0_4.index _ 1 * 512 ≤ (i 1 : Nat) ∧ (i 1 : Nat) < win0_4.index _ 1 * 512 + 512
                rw [e1]; dsimp only; omega
    | ⟨2, _⟩ => show win0_4.index _ 2 * 2048 ≤ (i 2 : Nat) ∧ (i 2 : Nat) < win0_4.index _ 2 * 2048 + 2048
                rw [e2]; omega

open Cert.Reference5Ideal.Read in
/-- The reference's result is `G` of the arguments at every index. -/
theorem ref_eq (x p : S2x8192x2048.Idx → EReal) (g : S8x12288.Idx → EReal) (w : S2048.Idx → EReal)
    (b : Fin 2) (r : Fin 8192) (n : Fin 2048) :
    val_main_v23 (F := Ideal) x p g w (ix3 b r n) = G x p g w b r n := by
  pointwise [G, norm, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v1, val_main_v0, val_main_cst, val_main_cst_0, val_main_cst_1]

/-- From memories that agree on the arguments, kernel and reference end with the same result. -/
theorem algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    rw [final]
    funext i
    obtain ⟨b, r, n, rfl⟩ : ∃ (b : Fin 2) (r : Fin 8192) (n : Fin 2048), i = ix3 b r n := ⟨i 0, i 1, i 2, eq_ix3 i⟩
    exact ref_eq _ _ _ _ b r n

end Cert.FinalNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite_inputs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.QueryProj
public import proofs.«01_k».proof.Proof.QueryBitsFrame
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Experts
public import Idealize.ShloMosaic.Lib.Quiescent
public import proofs.«01_k».proof.Proof.Attention
public import proofs.«01_k».proof.Proof.InProj
public import proofs.«01_k».proof.Proof.Merge
public import proofs.«01_k».proof.Proof.OutProj
public import proofs.«01_k».proof.Proof.FinalNorm
public import Idealize.ShloMosaic.Adequacy
public import Idealize.ShloMosaic.Init

@[expose] public section

noncomputable section

namespace Cert.Proof

open Idealize.ShloMosaic Idealize.SL.Sem Cert.Kernel

/-- `ReferenceIdeal` ends with its arguments unchanged and every semaphore counter at zero. -/
theorem Reference_frame : Cert.quiescent_ReferenceIdeal (hReferenceIdeal := Cert.ReferenceIdeal.Gen.facts) :=
  fun m ρ _ => (θ_run _ _ _).mono (fun _ h => ⟨fun c => (h c).2, sem_eq_zero_of_no_sems rfl _⟩) (Cert.ReferenceIdeal.Value.run m ρ)

/-- The same of `ReferenceIdeal` under the precondition of the attention's equation. -/
theorem Reference_frame_pre : Cert.quiescent_ReferenceIdeal_pre_finite_inputs (hReferenceIdeal := Cert.ReferenceIdeal.Gen.facts) (hPre_finite_inputs := Cert.Pre_finite_inputs.Gen.facts) :=
  fun m ρ _ => Reference_frame m ρ trivial

/-- `Reference2Ideal` ends with its arguments unchanged and every semaphore counter at zero. -/
theorem Reference2_frame : Cert.quiescent_Reference2Ideal (hReference2Ideal := Cert.Reference2Ideal.Gen.facts) :=
  fun m ρ _ => (θ_run _ _ _).mono (fun _ h => ⟨fun c => (h c).2, sem_eq_zero_of_no_sems rfl _⟩) (Cert.Reference2Ideal.Value.run m ρ)

/-- `Reference3Ideal` ends with its arguments unchanged and every semaphore counter at zero. -/
theorem Reference3_frame : Cert.quiescent_Reference3Ideal (hReference3Ideal := Cert.Reference3Ideal.Gen.facts) :=
  fun m ρ _ => (θ_run _ _ _).mono (fun _ h => ⟨fun c => (h c).2, sem_eq_zero_of_no_sems rfl _⟩) (Cert.Reference3Ideal.Value.run m ρ)

/-- `Reference4Ideal` ends with its arguments unchanged and every semaphore counter at zero. -/
theorem Reference4_frame : Cert.quiescent_Reference4Ideal (hReference4Ideal := Cert.Reference4Ideal.Gen.facts) :=
  fun m ρ _ => (θ_run _ _ _).mono (fun _ h => ⟨fun c => (h c).2, sem_eq_zero_of_no_sems rfl _⟩) (Cert.Reference4Ideal.Value.run m ρ)

/-- `Reference5Ideal` ends with its arguments unchanged and every semaphore counter at zero. -/
theorem Reference5_frame : Cert.quiescent_Reference5Ideal (hReference5Ideal := Cert.Reference5Ideal.Gen.facts) :=
  fun m ρ _ => (θ_run _ _ _).mono (fun _ h => ⟨fun c => (h c).2, sem_eq_zero_of_no_sems rfl _⟩) (Cert.Reference5Ideal.Value.run m ρ)

/-- `Reference6Ideal` ends with its arguments unchanged and every semaphore counter at zero. -/
theorem Reference6_frame : Cert.quiescent_Reference6Ideal (hReference6Ideal := Cert.Reference6Ideal.Gen.facts) :=
  fun m ρ _ => (θ_run _ _ _).mono (fun _ h => ⟨fun c => (h c).2.2, sem_eq_zero_of_no_sems rfl _⟩) (Cert.Reference6Ideal.Value.run m ρ)

/-- `Reference7Ideal` ends with its arguments unchanged and every semaphore counter at zero. -/
theorem Reference7_frame : Cert.quiescent_Reference7Ideal (hReference7Ideal := Cert.Reference7Ideal.Gen.facts) :=
  fun m ρ _ => (θ_run _ _ _).mono (fun _ h => ⟨fun c => (h c).2, sem_eq_zero_of_no_sems rfl _⟩) (Cert.Reference7Ideal.Value.run m ρ)

/-- Every claim of this proof: the frames of all programs, that no program was rewritten on its way to the ideal
semantics, and the equations of kernels and references. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite_inputs.Gen.facts,
  fun m ρ _ => Cert.Kernel.Gen.frame m ρ,
  fun m ρ _ => Cert.KernelIdeal.Gen.frame m ρ,
  fun m ρ _ => Cert.KernelIdeal.Gen.frame m ρ,
  Reference_frame,
  Reference_frame_pre,
  fun m ρ _ => Cert.Kernel2.Gen.frame m ρ,
  fun m ρ _ => Cert.Kernel2Ideal.Gen.frame m ρ,
  Reference2_frame,
  fun m ρ _ => Cert.Kernel3.Gen.frame m ρ,
  fun m ρ _ => Cert.Kernel3Ideal.Gen.frame m ρ,
  Reference3_frame,
  fun m ρ _ => Cert.Kernel4.Gen.frame m ρ,
  fun m ρ _ => Cert.Kernel4Ideal.Gen.frame m ρ,
  Reference4_frame,
  fun m ρ _ => Cert.Kernel5.Gen.frame m ρ,
  fun m ρ _ => Cert.Kernel5Ideal.Gen.frame m ρ,
  Reference5_frame,
  fun m ρ _ => Cert.QueryProjBits.frame_run m ρ,
  fun m ρ _ => Cert.QueryProj.frame_run m ρ,
  Reference6_frame,
  fun m ρ _ => Cert.Kernel7.Gen.frame m ρ,
  fun m ρ _ => Cert.Kernel7Ideal.Gen.frame m ρ,
  Reference7_frame,
  trivial,
  Cert.Attention.algebraic,
  trivial,
  Cert.InProj.algebraic,
  trivial,
  Cert.Merge.algebraic,
  trivial,
  Cert.OutProj.algebraic,
  trivial,
  Cert.FinalNorm.algebraic,
  trivial,
  Cert.QueryProj.algebraic,
  trivial,
  Cert.Experts.algebraic⟩

end Cert.Proof

end
